-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v39)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v41)) (v5 : (c : Dev Cert.KernelIdeal.nD) → Buf (Elt Ideal) ((c.tc : Thread Cert.KernelIdeal.nD Cert.KernelIdeal.τ).loc Cert.KernelIdeal.main_v42)) (v6 : (c : Dev Cert.KernelIdeal.nD) → Buf (Elt Ideal) ((c.tc : Thread Cert.KernelIdeal.nD Cert.KernelIdeal.τ).loc Cert.KernelIdeal.main_v43)) (v7 : (c : Dev Cert.KernelIdeal.nD) → Buf (Elt Ideal) ((c.tc : Thread Cert.KernelIdeal.nD Cert.KernelIdeal.τ).loc Cert.KernelIdeal.main_v44)) (v8 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_v41) = v4 c
          ∧ r.2.mem ((c.tc : Thread Cert.KernelIdeal.nD Cert.KernelIdeal.τ).loc Cert.KernelIdeal.main_v42) = v5 c
          ∧ r.2.mem ((c.tc : Thread Cert.KernelIdeal.nD Cert.KernelIdeal.τ).loc Cert.KernelIdeal.main_v43) = v6 c
          ∧ r.2.mem ((c.tc : Thread Cert.KernelIdeal.nD Cert.KernelIdeal.τ).loc Cert.KernelIdeal.main_v44) = v7 c
          ∧ r.2.mem ((c.tc : Thread Cert.KernelIdeal.nD Cert.KernelIdeal.τ).loc Cert.KernelIdeal.main_v45) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_v177) = v5 c
          ∧ r.2.mem ((c.tc : Thread Cert.ReferenceIdeal.nD Cert.ReferenceIdeal.τ).loc Cert.ReferenceIdeal.main_v171) = v6 c
          ∧ r.2.mem ((c.tc : Thread Cert.ReferenceIdeal.nD Cert.ReferenceIdeal.τ).loc Cert.ReferenceIdeal.main_v223) = v7 c
          ∧ r.2.mem ((c.tc : Thread Cert.ReferenceIdeal.nD Cert.ReferenceIdeal.τ).loc Cert.ReferenceIdeal.main_v217) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S7168 : Shape := ⟨1, ![7168]⟩
abbrev S7168x8960 : Shape := ⟨2, ![7168, 8960]⟩
abbrev S8960 : Shape := ⟨1, ![8960]⟩
abbrev S6400x7168 : Shape := ⟨2, ![6400, 7168]⟩
abbrev S7168x18944 : Shape := ⟨2, ![7168, 18944]⟩
abbrev S18944 : Shape := ⟨1, ![18944]⟩
abbrev S18944x7168 : Shape := ⟨2, ![18944, 7168]⟩
abbrev S256x7168 : Shape := ⟨2, ![256, 7168]⟩
abbrev S1x7168 : Shape := ⟨2, ![1, 7168]⟩
abbrev S256x1 : Shape := ⟨2, ![256, 1]⟩
abbrev S64x7168 : Shape := ⟨2, ![64, 7168]⟩
abbrev S64x1 : Shape := ⟨2, ![64, 1]⟩
abbrev S64 : Shape := ⟨1, ![64]⟩
abbrev S64x252 : Shape := ⟨2, ![64, 252]⟩
abbrev S1x8960 : Shape := ⟨2, ![1, 8960]⟩
abbrev S256x8960 : Shape := ⟨2, ![256, 8960]⟩
abbrev S7168x1280 : Shape := ⟨2, ![7168, 1280]⟩
abbrev S1x1280 : Shape := ⟨2, ![1, 1280]⟩
abbrev S256x1280 : Shape := ⟨2, ![256, 1280]⟩
abbrev S256x6400 : Shape := ⟨2, ![256, 6400]⟩
abbrev S2x128x8x5x160 : Shape := ⟨5, ![2, 128, 8, 5, 160]⟩
abbrev S2x8x5x128x160 : Shape := ⟨5, ![2, 8, 5, 128, 160]⟩
abbrev S16x640x160 : Shape := ⟨3, ![16, 640, 160]⟩
abbrev S2x128x8x160 : Shape := ⟨4, ![2, 128, 8, 160]⟩
abbrev S2x8x128x160 : Shape := ⟨4, ![2, 8, 128, 160]⟩
abbrev S16x128x160 : Shape := ⟨3, ![16, 128, 160]⟩
abbrev S1x640x160 : Shape := ⟨3, ![1, 640, 160]⟩
abbrev S1x128x160 : Shape := ⟨3, ![1, 128, 160]⟩
abbrev S640x160 : Shape := ⟨2, ![640, 160]⟩
abbrev S128x160 : Shape := ⟨2, ![128, 160]⟩
abbrev S640x128 : Shape := ⟨2, ![640, 128]⟩
abbrev S640 : Shape := ⟨1, ![640]⟩
abbrev S640x1 : Shape := ⟨2, ![640, 1]⟩
abbrev S64x6400 : Shape := ⟨2, ![64, 6400]⟩
abbrev S6400x1024 : Shape := ⟨2, ![6400, 1024]⟩
abbrev S1x1024 : Shape := ⟨2, ![1, 1024]⟩
abbrev S256x1024 : Shape := ⟨2, ![256, 1024]⟩
abbrev S1x18944 : Shape := ⟨2, ![1, 18944]⟩
abbrev S256x18944 : Shape := ⟨2, ![256, 18944]⟩
abbrev S7168x512 : Shape := ⟨2, ![7168, 512]⟩
abbrev S1x512 : Shape := ⟨2, ![1, 512]⟩
abbrev S256x512 : Shape := ⟨2, ![256, 512]⟩
abbrev S64x18944 : Shape := ⟨2, ![64, 18944]⟩
abbrev S18944x512 : Shape := ⟨2, ![18944, 512]⟩
abbrev S2x128x1 : Shape := ⟨3, ![2, 128, 1]⟩
abbrev S2x128x6400 : Shape := ⟨3, ![2, 128, 6400]⟩
abbrev S2x128x18944 : Shape := ⟨3, ![2, 128, 18944]⟩

abbrev nBuf : Space → Nat
  | .hbm => 67
  | .vmem => 80
  | .smem => 0
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S7168, .f32⟩
  | .hbm, ⟨3, _⟩ => ⟨S7168x8960, .fp8e4m3⟩
  | .hbm, ⟨4, _⟩ => ⟨S8960, .f32⟩
  | .hbm, ⟨5, _⟩ => ⟨S8960, .f32⟩
  | .hbm, ⟨6, _⟩ => ⟨S6400x7168, .fp8e4m3⟩
  | .hbm, ⟨7, _⟩ => ⟨S7168, .f32⟩
  | .hbm, ⟨8, _⟩ => ⟨S7168, .f32⟩
  | .hbm, ⟨9, _⟩ => ⟨S7168, .f32⟩
  | .hbm, ⟨10, _⟩ => ⟨S7168, .f32⟩
  | .hbm, ⟨11, _⟩ => ⟨S7168x18944, .fp8e4m3⟩
  | .hbm, ⟨12, _⟩ => ⟨S18944, .f32⟩
  | .hbm, ⟨13, _⟩ => ⟨S18944, .f32⟩
  | .hbm, ⟨14, _⟩ => ⟨S18944x7168, .fp8e4m3⟩
  | .hbm, ⟨15, _⟩ => ⟨S7168, .f32⟩
  | .hbm, ⟨16, _⟩ => ⟨S7168, .f32⟩
  | .hbm, ⟨17, _⟩ => ⟨S256x7168, .bf16⟩
  | .hbm, ⟨18, _⟩ => ⟨S1x7168, .f32⟩
  | .hbm, ⟨19, _⟩ => ⟨S1x7168, .f32⟩
  | .hbm, ⟨20, _⟩ => ⟨S256x7168, .fp8e4m3⟩
  | .hbm, ⟨21, _⟩ => ⟨S256x1, .f32⟩
  | .hbm, ⟨22, _⟩ => ⟨S1x8960, .f32⟩
  | .hbm, ⟨23, _⟩ => ⟨S1x8960, .f32⟩
  | .hbm, ⟨24, _⟩ => ⟨S256x8960, .bf16⟩
  | .hbm, ⟨25, _⟩ => ⟨S256x6400, .bf16⟩
  | .hbm, ⟨26, _⟩ => ⟨S2x128x8x5x160, .bf16⟩
  | .hbm, ⟨27, _⟩ => ⟨S2x8x5x128x160, .bf16⟩
  | .hbm, ⟨28, _⟩ => ⟨S16x640x160, .bf16⟩
  | .hbm, ⟨29, _⟩ => ⟨S256x1280, .bf16⟩
  | .hbm, ⟨30, _⟩ => ⟨S2x128x8x160, .bf16⟩
  | .hbm, ⟨31, _⟩ => ⟨S2x8x128x160, .bf16⟩
  | .hbm, ⟨32, _⟩ => ⟨S16x128x160, .bf16⟩
  | .hbm, ⟨33, _⟩ => ⟨S256x1280, .bf16⟩
  | .hbm, ⟨34, _⟩ => ⟨S2x128x8x160, .bf16⟩
  | .hbm, ⟨35, _⟩ => ⟨S2x8x128x160, .bf16⟩
  | .hbm, ⟨36, _⟩ => ⟨S16x128x160, .bf16⟩
  | .hbm, ⟨37, _⟩ => ⟨S16x640x160, .f32⟩
  | .hbm, ⟨38, _⟩ => ⟨S2x8x5x128x160, .f32⟩
  | .hbm, ⟨39, _⟩ => ⟨S2x128x8x5x160, .f32⟩
  | .hbm, ⟨40, _⟩ => ⟨S256x6400, .f32⟩
  | .hbm, ⟨41, _⟩ => ⟨S256x6400, .fp8e4m3⟩
  | .hbm, ⟨42, _⟩ => ⟨S256x1, .f32⟩
  | .hbm, ⟨43, _⟩ => ⟨S1x7168, .f32⟩
  | .hbm, ⟨44, _⟩ => ⟨S1x7168, .f32⟩
  | .hbm, ⟨45, _⟩ => ⟨S256x7168, .f32⟩
  | .hbm, ⟨46, _⟩ => ⟨S1x7168, .f32⟩
  | .hbm, ⟨47, _⟩ => ⟨S1x7168, .f32⟩
  | .hbm, ⟨48, _⟩ => ⟨S256x7168, .fp8e4m3⟩
  | .hbm, ⟨49, _⟩ => ⟨S256x1, .f32⟩
  | .hbm, ⟨50, _⟩ => ⟨S1x18944, .f32⟩
  | .hbm, ⟨51, _⟩ => ⟨S1x18944, .f32⟩
  | .hbm, ⟨52, _⟩ => ⟨S256x18944, .f32⟩
  | .hbm, ⟨53, _⟩ => ⟨S256x18944, .fp8e4m3⟩
  | .hbm, ⟨54, _⟩ => ⟨S256x1, .f32⟩
  | .hbm, ⟨55, _⟩ => ⟨S1x7168, .f32⟩
  | .hbm, ⟨56, _⟩ => ⟨S1x7168, .f32⟩
  | .hbm, ⟨57, _⟩ => ⟨S256x7168, .bf16⟩
  | .hbm, ⟨58, _⟩ => ⟨S2x128x7168, .bf16⟩
  | .hbm, ⟨59, _⟩ => ⟨S2x128x7168, .fp8e4m3⟩
  | .hbm, ⟨60, _⟩ => ⟨S2x128x1, .f32⟩
  | .hbm, ⟨61, _⟩ => ⟨S2x128x6400, .fp8e4m3⟩
  | .hbm, ⟨62, _⟩ => ⟨S2x128x1, .f32⟩
  | .hbm, ⟨63, _⟩ => ⟨S2x128x7168, .fp8e4m3⟩
  | .hbm, ⟨64, _⟩ => ⟨S2x128x1, .f32⟩
  | .hbm, ⟨65, _⟩ => ⟨S2x128x18944, .fp8e4m3⟩
  | .hbm, ⟨66, _⟩ => ⟨S2x128x1, .f32⟩
  | .local _ .vmem, ⟨0, _⟩ => ⟨S64x7168, .bf16⟩
  | .local _ .vmem, ⟨1, _⟩ => ⟨S64x7168, .bf16⟩
  | .local _ .vmem, ⟨2, _⟩ => ⟨S1x7168, .f32⟩
  | .local _ .vmem, ⟨3, _⟩ => ⟨S1x7168, .f32⟩
  | .local _ .vmem, ⟨4, _⟩ => ⟨S64x7168, .fp8e4m3⟩
  | .local _ .vmem, ⟨5, _⟩ => ⟨S64x7168, .fp8e4m3⟩
  | .local _ .vmem, ⟨6, _⟩ => ⟨S64x1, .f32⟩
  | .local _ .vmem, ⟨7, _⟩ => ⟨S64x1, .f32⟩
  | .local _ .vmem, ⟨8, _⟩ => ⟨S256x7168, .fp8e4m3⟩
  | .local _ .vmem, ⟨9, _⟩ => ⟨S256x1, .f32⟩
  | .local _ .vmem, ⟨10, _⟩ => ⟨S7168x1280, .fp8e4m3⟩
  | .local _ .vmem, ⟨11, _⟩ => ⟨S7168x1280, .fp8e4m3⟩
  | .local _ .vmem, ⟨12, _⟩ => ⟨S1x1280, .f32⟩
  | .local _ .vmem, ⟨13, _⟩ => ⟨S1x1280, .f32⟩
  | .local _ .vmem, ⟨14, _⟩ => ⟨S1x1280, .f32⟩
  | .local _ .vmem, ⟨15, _⟩ => ⟨S1x1280, .f32⟩
  | .local _ .vmem, ⟨16, _⟩ => ⟨S256x1280, .bf16⟩
  | .local _ .vmem, ⟨17, _⟩ => ⟨S256x1280, .bf16⟩
  | .local _ .vmem, ⟨18, _⟩ => ⟨S1x640x160, .bf16⟩
  | .local _ .vmem, ⟨19, _⟩ => ⟨S1x640x160, .bf16⟩
  | .local _ .vmem, ⟨20, _⟩ => ⟨S1x128x160, .bf16⟩
  | .local _ .vmem, ⟨21, _⟩ => ⟨S1x128x160, .bf16⟩
  | .local _ .vmem, ⟨22, _⟩ => ⟨S1x128x160, .bf16⟩
  | .local _ .vmem, ⟨23, _⟩ => ⟨S1x128x160, .bf16⟩
  | .local _ .vmem, ⟨24, _⟩ => ⟨S1x640x160, .f32⟩
  | .local _ .vmem, ⟨25, _⟩ => ⟨S1x640x160, .f32⟩
  | .local _ .vmem, ⟨26, _⟩ => ⟨S64x6400, .f32⟩
  | .local _ .vmem, ⟨27, _⟩ => ⟨S64x6400, .f32⟩
  | .local _ .vmem, ⟨28, _⟩ => ⟨S64x6400, .fp8e4m3⟩
  | .local _ .vmem, ⟨29, _⟩ => ⟨S64x6400, .fp8e4m3⟩
  | .local _ .vmem, ⟨30, _⟩ => ⟨S64x1, .f32⟩
  | .local _ .vmem, ⟨31, _⟩ => ⟨S64x1, .f32⟩
  | .local _ .vmem, ⟨32, _⟩ => ⟨S256x6400, .fp8e4m3⟩
  | .local _ .vmem, ⟨33, _⟩ => ⟨S256x1, .f32⟩
  | .local _ .vmem, ⟨34, _⟩ => ⟨S6400x1024, .fp8e4m3⟩
  | .local _ .vmem, ⟨35, _⟩ => ⟨S6400x1024, .fp8e4m3⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S256x1024, .bf16⟩
  | .local _ .vmem, ⟨41, _⟩ => ⟨S256x1024, .bf16⟩
  | .local _ .vmem, ⟨42, _⟩ => ⟨S256x1024, .f32⟩
  | .local _ .vmem, ⟨43, _⟩ => ⟨S256x1024, .f32⟩
  | .local _ .vmem, ⟨44, _⟩ => ⟨S64x7168, .f32⟩
  | .local _ .vmem, ⟨45, _⟩ => ⟨S64x7168, .f32⟩
  | .local _ .vmem, ⟨46, _⟩ => ⟨S1x7168, .f32⟩
  | .local _ .vmem, ⟨47, _⟩ => ⟨S1x7168, .f32⟩
  | .local _ .vmem, ⟨48, _⟩ => ⟨S64x7168, .fp8e4m3⟩
  | .local _ .vmem, ⟨49, _⟩ => ⟨S64x7168, .fp8e4m3⟩
  | .local _ .vmem, ⟨50, _⟩ => ⟨S64x1, .f32⟩
  | .local _ .vmem, ⟨51, _⟩ => ⟨S64x1, .f32⟩
  | .local _ .vmem, ⟨52, _⟩ => ⟨S256x7168, .fp8e4m3⟩
  | .local _ .vmem, ⟨53, _⟩ => ⟨S256x1, .f32⟩
  | .local _ .vmem, ⟨54, _⟩ => ⟨S7168x512, .fp8e4m3⟩
  | .local _ .vmem, ⟨55, _⟩ => ⟨S7168x512, .fp8e4m3⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S1x512, .f32⟩
  | .local _ .vmem, ⟨60, _⟩ => ⟨S256x512, .f32⟩
  | .local _ .vmem, ⟨61, _⟩ => ⟨S256x512, .f32⟩
  | .local _ .vmem, ⟨62, _⟩ => ⟨S64x18944, .f32⟩
  | .local _ .vmem, ⟨63, _⟩ => ⟨S64x18944, .f32⟩
  | .local _ .vmem, ⟨64, _⟩ => ⟨S64x18944, .fp8e4m3⟩
  | .local _ .vmem, ⟨65, _⟩ => ⟨S64x18944, .fp8e4m3⟩
  | .local _ .vmem, ⟨66, _⟩ => ⟨S64x1, .f32⟩
  | .local _ .vmem, ⟨67, _⟩ => ⟨S64x1, .f32⟩
  | .local _ .vmem, ⟨68, _⟩ => ⟨S256x18944, .fp8e4m3⟩
  | .local _ .vmem, ⟨69, _⟩ => ⟨S256x1, .f32⟩
  | .local _ .vmem, ⟨70, _⟩ => ⟨S18944x512, .fp8e4m3⟩
  | .local _ .vmem, ⟨71, _⟩ => ⟨S18944x512, .fp8e4m3⟩
  | .local _ .vmem, ⟨72, _⟩ => ⟨S1x512, .f32⟩
  | .local _ .vmem, ⟨73, _⟩ => ⟨S1x512, .f32⟩
  | .local _ .vmem, ⟨74, _⟩ => ⟨S1x512, .f32⟩
  | .local _ .vmem, ⟨75, _⟩ => ⟨S1x512, .f32⟩
  | .local _ .vmem, ⟨76, _⟩ => ⟨S256x512, .f32⟩
  | .local _ .vmem, ⟨77, _⟩ => ⟨S256x512, .f32⟩
  | .local _ .vmem, ⟨78, _⟩ => ⟨S256x512, .bf16⟩
  | .local _ .vmem, ⟨79, _⟩ => ⟨S256x512, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3_0 : Ref sig .tc := ⟨.hbm, 20, rfl⟩
abbrev main_v3_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg4_1 : Ref sig .tc := ⟨.vmem, 59, rfl⟩
abbrev cc6_stg5_0 : Ref sig .tc := ⟨.vmem, 60, rfl⟩
abbrev cc6_stg5_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc8_stg0_0 : Ref sig .tc := ⟨.vmem, 68, rfl⟩
abbrev cc8_stg1_0 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg3_1 : Ref sig .tc := ⟨.vmem, 73, rfl⟩
abbrev cc8_stg4_0 : Ref sig .tc := ⟨.vmem, 74, rfl⟩
abbrev cc8_stg4_1 : Ref sig .tc := ⟨.vmem, 75, rfl⟩
abbrev cc8_stg5_0 : Ref sig .tc := ⟨.vmem, 76, rfl⟩
abbrev cc8_stg5_1 : Ref sig .tc := ⟨.vmem, 77, rfl⟩
abbrev cc8_stg6_0 : Ref sig .tc := ⟨.vmem, 78, rfl⟩
abbrev cc8_stg6_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem1_0 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem4_1 : DmaSem sig := 39
abbrev cc4_sem5_0 : DmaSem sig := 40
abbrev cc4_sem5_1 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem1_0 : DmaSem sig := 53
abbrev cc6_sem2_0 : DmaSem sig := 54
abbrev cc6_sem2_1 : DmaSem sig := 55
abbrev cc6_sem3_0 : DmaSem sig := 56
abbrev cc6_sem3_1 : DmaSem sig := 57
abbrev cc6_sem4_0 : DmaSem sig := 58
abbrev cc6_sem4_1 : DmaSem sig := 59
abbrev cc6_sem5_0 : DmaSem sig := 60
abbrev cc6_sem5_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc8_sem0_0 : DmaSem sig := 68
abbrev cc8_sem1_0 : DmaSem sig := 69
abbrev cc8_sem2_0 : DmaSem sig := 70
abbrev cc8_sem2_1 : DmaSem sig := 71
abbrev cc8_sem3_0 : DmaSem sig := 72
abbrev cc8_sem3_1 : DmaSem sig := 73
abbrev cc8_sem4_0 : DmaSem sig := 74
abbrev cc8_sem4_1 : DmaSem sig := 75
abbrev cc8_sem5_0 : DmaSem sig := 76
abbrev cc8_sem5_1 : DmaSem sig := 77
abbrev cc8_sem6_0 : DmaSem sig := 78
abbrev cc8_sem6_1 : DmaSem sig := 79

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x7168 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S7168x1280 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1280 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x640x160 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x160 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x160 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x640x160 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x6400 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x6400 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![7], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S256x6400 .fp8e4m3 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S6400x1024 .fp8e4m3 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S64x7168 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x7168 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x7168 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S64x7168 .fp8e4m3 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S64x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![37], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S256x7168 .fp8e4m3 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S7168x512 .fp8e4m3 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S64x18944 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S64x18944 .fp8e4m3 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S64x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![14], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 1 → Memref sig .tc .vmem S256x18944 .fp8e4m3 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S256x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S18944x512 .fp8e4m3 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1x512 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S256x512 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S256x512 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]
-- ==== ReferenceIdeal.lean ====
abbrev S2x128x7168 : Shape := ⟨3, ![2, 128, 7168]⟩
abbrev S7168 : Shape := ⟨1, ![7168]⟩
abbrev S7168x8960 : Shape := ⟨2, ![7168, 8960]⟩
abbrev S8960 : Shape := ⟨1, ![8960]⟩
abbrev S6400x7168 : Shape := ⟨2, ![6400, 7168]⟩
abbrev S7168x18944 : Shape := ⟨2, ![7168, 18944]⟩
abbrev S18944 : Shape := ⟨1, ![18944]⟩
abbrev S18944x7168 : Shape := ⟨2, ![18944, 7168]⟩
abbrev S_ : Shape := ⟨0, ![]⟩
abbrev S2x128 : Shape := ⟨2, ![2, 128]⟩
abbrev S2x128x1 : Shape := ⟨3, ![2, 128, 1]⟩
abbrev S1x1x7168 : Shape := ⟨3, ![1, 1, 7168]⟩
abbrev S253 : Shape := ⟨1, ![253]⟩
abbrev S1x1x253 : Shape := ⟨3, ![1, 1, 253]⟩
abbrev S2x128x253 : Shape := ⟨3, ![2, 128, 253]⟩
abbrev S256x7168 : Shape := ⟨2, ![256, 7168]⟩
abbrev S256x8960 : Shape := ⟨2, ![256, 8960]⟩
abbrev S2x128x8960 : Shape := ⟨3, ![2, 128, 8960]⟩
abbrev S1x1x8960 : Shape := ⟨3, ![1, 1, 8960]⟩
abbrev S2x128x6400 : Shape := ⟨3, ![2, 128, 6400]⟩
abbrev S2x128x40x160 : Shape := ⟨4, ![2, 128, 40, 160]⟩
abbrev S2x128x1280 : Shape := ⟨3, ![2, 128, 1280]⟩
abbrev S2x128x8x160 : Shape := ⟨4, ![2, 128, 8, 160]⟩
abbrev S2x128x8x5x160 : Shape := ⟨5, ![2, 128, 8, 5, 160]⟩
abbrev S2x8x128x128x5 : Shape := ⟨5, ![2, 8, 128, 128, 5]⟩
abbrev S2x8x5x128x128 : Shape := ⟨5, ![2, 8, 5, 128, 128]⟩
abbrev S2x8x5x128 : Shape := ⟨4, ![2, 8, 5, 128]⟩
abbrev S2x8x5x128x1 : Shape := ⟨5, ![2, 8, 5, 128, 1]⟩
abbrev S2x8x160x5x128 : Shape := ⟨5, ![2, 8, 160, 5, 128]⟩
abbrev S256x6400 : Shape := ⟨2, ![256, 6400]⟩
abbrev S256x18944 : Shape := ⟨2, ![256, 18944]⟩
abbrev S2x128x18944 : Shape := ⟨3, ![2, 128, 18944]⟩
abbrev S1x1x18944 : Shape := ⟨3, ![1, 1, 18944]⟩

abbrev nBuf : Space → Nat
  | .hbm => 355
  | .vmem => 12
  | .smem => 0
  | _ => 0

abbrev hbmTy0_0 (i : Nat) : BufTy := match i % 128 with
  | 0 => ⟨S2x128x7168, .bf16⟩
  | 1 => ⟨S7168, .f32⟩
  | 2 => ⟨S7168, .f32⟩
  | 3 => ⟨S7168x8960, .fp8e4m3⟩
  | 4 => ⟨S8960, .f32⟩
  | 5 => ⟨S8960, .f32⟩
  | 6 => ⟨S6400x7168, .fp8e4m3⟩
  | 7 => ⟨S7168, .f32⟩
  | 8 => ⟨S7168, .f32⟩
  | 9 => ⟨S7168, .f32⟩
  | 10 => ⟨S7168, .f32⟩
  | 11 => ⟨S7168x18944, .fp8e4m3⟩
  | 12 => ⟨S18944, .f32⟩
  | 13 => ⟨S18944, .f32⟩
  | 14 => ⟨S18944x7168, .fp8e4m3⟩
  | 15 => ⟨S7168, .f32⟩
  | 16 => ⟨S7168, .f32⟩
  | 17 => ⟨S2x128x7168, .f32⟩
  | 18 => ⟨S_, .f32⟩
  | 19 => ⟨S2x128, .f32⟩
  | 20 => ⟨S2x128x1, .f32⟩
  | 21 => ⟨S_, .f32⟩
  | 22 => ⟨S2x128x1, .f32⟩
  | 23 => ⟨S2x128x1, .f32⟩
  | 24 => ⟨S2x128x7168, .f32⟩
  | 25 => ⟨S2x128x7168, .f32⟩
  | 26 => ⟨S2x128x7168, .f32⟩
  | 27 => ⟨S_, .f32⟩
  | 28 => ⟨S2x128, .f32⟩
  | 29 => ⟨S2x128x1, .f32⟩
  | 30 => ⟨S_, .f32⟩
  | 31 => ⟨S2x128x1, .f32⟩
  | 32 => ⟨S2x128x1, .f32⟩
  | 33 => ⟨S_, .f32⟩
  | 34 => ⟨S2x128x1, .f32⟩
  | 35 => ⟨S2x128x1, .f32⟩
  | 36 => ⟨S2x128x1, .f32⟩
  | 37 => ⟨S2x128x7168, .f32⟩
  | 38 => ⟨S2x128x7168, .f32⟩
  | 39 => ⟨S1x1x7168, .f32⟩
  | 40 => ⟨S2x128x7168, .f32⟩
  | 41 => ⟨S2x128x7168, .f32⟩
  | 42 => ⟨S1x1x7168, .f32⟩
  | 43 => ⟨S2x128x7168, .f32⟩
  | 44 => ⟨S2x128x7168, .f32⟩
  | 45 => ⟨S2x128x7168, .f32⟩
  | 46 => ⟨S_, .f32⟩
  | 47 => ⟨S2x128, .f32⟩
  | 48 => ⟨S2x128x1, .f32⟩
  | 49 => ⟨S_, .f32⟩
  | 50 => ⟨S2x128x1, .f32⟩
  | 51 => ⟨S2x128x1, .i1⟩
  | 52 => ⟨S_, .f32⟩
  | 53 => ⟨S2x128x1, .f32⟩
  | 54 => ⟨S2x128x1, .f32⟩
  | 55 => ⟨S253, .i32⟩
  | 56 => ⟨S_, .i32⟩
  | 57 => ⟨S253, .i32⟩
  | 58 => ⟨S253, .i32⟩
  | 59 => ⟨S253, .f32⟩
  | 60 => ⟨S_, .f32⟩
  | 61 => ⟨S253, .f32⟩
  | 62 => ⟨S253, .f32⟩
  | 63 => ⟨S1x1x253, .f32⟩
  | 64 => ⟨S2x128x253, .f32⟩
  | 65 => ⟨S2x128x253, .f32⟩
  | 66 => ⟨S2x128x253, .i1⟩
  | 67 => ⟨S_, .f32⟩
  | 68 => ⟨S_, .f32⟩
  | 69 => ⟨S2x128x253, .f32⟩
  | 70 => ⟨S2x128x253, .f32⟩
  | 71 => ⟨S2x128x253, .f32⟩
  | 72 => ⟨S_, .f32⟩
  | 73 => ⟨S2x128, .f32⟩
  | 74 => ⟨S2x128x1, .f32⟩
  | 75 => ⟨S_, .f32⟩
  | 76 => ⟨S_, .f32⟩
  | 77 => ⟨S2x128x1, .f32⟩
  | 78 => ⟨S2x128x1, .f32⟩
  | 79 => ⟨S_, .f32⟩
  | 80 => ⟨S2x128x1, .f32⟩
  | 81 => ⟨S2x128x1, .f32⟩
  | 82 => ⟨S2x128x7168, .f32⟩
  | 83 => ⟨S2x128x7168, .f32⟩
  | 84 => ⟨S_, .f32⟩
  | 85 => ⟨S_, .f32⟩
  | 86 => ⟨S_, .f32⟩
  | 87 => ⟨S2x128x7168, .f32⟩
  | 88 => ⟨S2x128x7168, .f32⟩
  | 89 => ⟨S_, .f32⟩
  | 90 => ⟨S2x128x7168, .f32⟩
  | 91 => ⟨S2x128x7168, .f32⟩
  | 92 => ⟨S2x128x7168, .fp8e4m3⟩
  | 93 => ⟨S256x7168, .fp8e4m3⟩
  | 94 => ⟨S256x8960, .f32⟩
  | 95 => ⟨S2x128x8960, .f32⟩
  | 96 => ⟨S2x128x8960, .f32⟩
  | 97 => ⟨S2x128x8960, .f32⟩
  | 98 => ⟨S1x1x8960, .f32⟩
  | 99 => ⟨S2x128x8960, .f32⟩
  | 100 => ⟨S2x128x8960, .f32⟩
  | 101 => ⟨S1x1x8960, .f32⟩
  | 102 => ⟨S2x128x8960, .f32⟩
  | 103 => ⟨S2x128x8960, .f32⟩
  | 104 => ⟨S2x128x6400, .f32⟩
  | 105 => ⟨S2x128x40x160, .f32⟩
  | 106 => ⟨S2x128x40x160, .bf16⟩
  | 107 => ⟨S2x128x1280, .f32⟩
  | 108 => ⟨S2x128x8x160, .f32⟩
  | 109 => ⟨S2x128x8x160, .bf16⟩
  | 110 => ⟨S2x128x1280, .f32⟩
  | 111 => ⟨S2x128x8x160, .f32⟩
  | 112 => ⟨S2x128x8x160, .bf16⟩
  | 113 => ⟨S2x128x8x5x160, .bf16⟩
  | 114 => ⟨S2x8x128x128x5, .f32⟩
  | 115 => ⟨S2x8x5x128x128, .f32⟩
  | 116 => ⟨S_, .f32⟩
  | 117 => ⟨S2x8x5x128x128, .f32⟩
  | 118 => ⟨S2x8x5x128x128, .f32⟩
  | 119 => ⟨S_, .f32⟩
  | 120 => ⟨S2x8x5x128, .f32⟩
  | 121 => ⟨S_, .f32⟩
  | 122 => ⟨S2x8x5x128, .f32⟩
  | 123 => ⟨S2x8x5x128, .f32⟩
  | 124 => ⟨S2x8x5x128x1, .f32⟩
  | 125 => ⟨S2x8x5x128x128, .f32⟩
  | 126 => ⟨S2x8x5x128x128, .f32⟩
  | 127 => ⟨S2x8x5x128x128, .f32⟩
  | _ => ⟨S2x128x7168, .bf16⟩

abbrev hbmTy0_1 (i : Nat) : BufTy := match i % 128 with
  | 0 => ⟨S_, .f32⟩
  | 1 => ⟨S2x8x5x128, .f32⟩
  | 2 => ⟨S2x8x5x128x1, .f32⟩
  | 3 => ⟨S2x8x5x128x128, .f32⟩
  | 4 => ⟨S2x8x5x128x128, .f32⟩
  | 5 => ⟨S2x8x5x128x128, .bf16⟩
  | 6 => ⟨S2x8x160x5x128, .f32⟩
  | 7 => ⟨S2x128x8x5x160, .f32⟩
  | 8 => ⟨S2x128x6400, .f32⟩
  | 9 => ⟨S2x128x6400, .f32⟩
  | 10 => ⟨S_, .f32⟩
  | 11 => ⟨S2x128, .f32⟩
  | 12 => ⟨S2x128x1, .f32⟩
  | 13 => ⟨S_, .f32⟩
  | 14 => ⟨S2x128x1, .f32⟩
  | 15 => ⟨S2x128x1, .i1⟩
  | 16 => ⟨S_, .f32⟩
  | 17 => ⟨S2x128x1, .f32⟩
  | 18 => ⟨S2x128x1, .f32⟩
  | 19 => ⟨S253, .i32⟩
  | 20 => ⟨S_, .i32⟩
  | 21 => ⟨S253, .i32⟩
  | 22 => ⟨S253, .i32⟩
  | 23 => ⟨S253, .f32⟩
  | 24 => ⟨S_, .f32⟩
  | 25 => ⟨S253, .f32⟩
  | 26 => ⟨S253, .f32⟩
  | 27 => ⟨S1x1x253, .f32⟩
  | 28 => ⟨S2x128x253, .f32⟩
  | 29 => ⟨S2x128x253, .f32⟩
  | 30 => ⟨S2x128x253, .i1⟩
  | 31 => ⟨S_, .f32⟩
  | 32 => ⟨S_, .f32⟩
  | 33 => ⟨S2x128x253, .f32⟩
  | 34 => ⟨S2x128x253, .f32⟩
  | 35 => ⟨S2x128x253, .f32⟩
  | 36 => ⟨S_, .f32⟩
  | 37 => ⟨S2x128, .f32⟩
  | 38 => ⟨S2x128x1, .f32⟩
  | 39 => ⟨S_, .f32⟩
  | 40 => ⟨S_, .f32⟩
  | 41 => ⟨S2x128x1, .f32⟩
  | 42 => ⟨S2x128x1, .f32⟩
  | 43 => ⟨S_, .f32⟩
  | 44 => ⟨S2x128x1, .f32⟩
  | 45 => ⟨S2x128x1, .f32⟩
  | 46 => ⟨S2x128x6400, .f32⟩
  | 47 => ⟨S2x128x6400, .f32⟩
  | 48 => ⟨S_, .f32⟩
  | 49 => ⟨S_, .f32⟩
  | 50 => ⟨S_, .f32⟩
  | 51 => ⟨S2x128x6400, .f32⟩
  | 52 => ⟨S2x128x6400, .f32⟩
  | 53 => ⟨S_, .f32⟩
  | 54 => ⟨S2x128x6400, .f32⟩
  | 55 => ⟨S2x128x6400, .f32⟩
  | 56 => ⟨S2x128x6400, .fp8e4m3⟩
  | 57 => ⟨S256x6400, .fp8e4m3⟩
  | 58 => ⟨S256x7168, .f32⟩
  | 59 => ⟨S2x128x7168, .f32⟩
  | 60 => ⟨S2x128x7168, .f32⟩
  | 61 => ⟨S2x128x7168, .f32⟩
  | 62 => ⟨S1x1x7168, .f32⟩
  | 63 => ⟨S2x128x7168, .f32⟩
  | 64 => ⟨S2x128x7168, .f32⟩
  | 65 => ⟨S1x1x7168, .f32⟩
  | 66 => ⟨S2x128x7168, .f32⟩
  | 67 => ⟨S2x128x7168, .f32⟩
  | 68 => ⟨S2x128x7168, .f32⟩
  | 69 => ⟨S_, .f32⟩
  | 70 => ⟨S2x128, .f32⟩
  | 71 => ⟨S2x128x1, .f32⟩
  | 72 => ⟨S_, .f32⟩
  | 73 => ⟨S2x128x1, .f32⟩
  | 74 => ⟨S2x128x1, .f32⟩
  | 75 => ⟨S2x128x7168, .f32⟩
  | 76 => ⟨S2x128x7168, .f32⟩
  | 77 => ⟨S2x128x7168, .f32⟩
  | 78 => ⟨S_, .f32⟩
  | 79 => ⟨S2x128, .f32⟩
  | 80 => ⟨S2x128x1, .f32⟩
  | 81 => ⟨S_, .f32⟩
  | 82 => ⟨S2x128x1, .f32⟩
  | 83 => ⟨S2x128x1, .f32⟩
  | 84 => ⟨S_, .f32⟩
  | 85 => ⟨S2x128x1, .f32⟩
  | 86 => ⟨S2x128x1, .f32⟩
  | 87 => ⟨S2x128x1, .f32⟩
  | 88 => ⟨S2x128x7168, .f32⟩
  | 89 => ⟨S2x128x7168, .f32⟩
  | 90 => ⟨S1x1x7168, .f32⟩
  | 91 => ⟨S2x128x7168, .f32⟩
  | 92 => ⟨S2x128x7168, .f32⟩
  | 93 => ⟨S1x1x7168, .f32⟩
  | 94 => ⟨S2x128x7168, .f32⟩
  | 95 => ⟨S2x128x7168, .f32⟩
  | 96 => ⟨S2x128x7168, .f32⟩
  | 97 => ⟨S_, .f32⟩
  | 98 => ⟨S2x128, .f32⟩
  | 99 => ⟨S2x128x1, .f32⟩
  | 100 => ⟨S_, .f32⟩
  | 101 => ⟨S2x128x1, .f32⟩
  | 102 => ⟨S2x128x1, .i1⟩
  | 103 => ⟨S_, .f32⟩
  | 104 => ⟨S2x128x1, .f32⟩
  | 105 => ⟨S2x128x1, .f32⟩
  | 106 => ⟨S253, .i32⟩
  | 107 => ⟨S_, .i32⟩
  | 108 => ⟨S253, .i32⟩
  | 109 => ⟨S253, .i32⟩
  | 110 => ⟨S253, .f32⟩
  | 111 => ⟨S_, .f32⟩
  | 112 => ⟨S253, .f32⟩
  | 113 => ⟨S253, .f32⟩
  | 114 => ⟨S1x1x253, .f32⟩
  | 115 => ⟨S2x128x253, .f32⟩
  | 116 => ⟨S2x128x253, .f32⟩
  | 117 => ⟨S2x128x253, .i1⟩
  | 118 => ⟨S_, .f32⟩
  | 119 => ⟨S_, .f32⟩
  | 120 => ⟨S2x128x253, .f32⟩
  | 121 => ⟨S2x128x253, .f32⟩
  | 122 => ⟨S2x128x253, .f32⟩
  | 123 => ⟨S_, .f32⟩
  | 124 => ⟨S2x128, .f32⟩
  | 125 => ⟨S2x128x1, .f32⟩
  | 126 => ⟨S_, .f32⟩
  | 127 => ⟨S_, .f32⟩
  | _ => ⟨S2x128x7168, .bf16⟩

abbrev hbmTy0_2 (i : Nat) : BufTy := match i % 128 with
  | 0 => ⟨S2x128x1, .f32⟩
  | 1 => ⟨S2x128x1, .f32⟩
  | 2 => ⟨S_, .f32⟩
  | 3 => ⟨S2x128x1, .f32⟩
  | 4 => ⟨S2x128x1, .f32⟩
  | 5 => ⟨S2x128x7168, .f32⟩
  | 6 => ⟨S2x128x7168, .f32⟩
  | 7 => ⟨S_, .f32⟩
  | 8 => ⟨S_, .f32⟩
  | 9 => ⟨S_, .f32⟩
  | 10 => ⟨S2x128x7168, .f32⟩
  | 11 => ⟨S2x128x7168, .f32⟩
  | 12 => ⟨S_, .f32⟩
  | 13 => ⟨S2x128x7168, .f32⟩
  | 14 => ⟨S2x128x7168, .f32⟩
  | 15 => ⟨S2x128x7168, .fp8e4m3⟩
  | 16 => ⟨S256x7168, .fp8e4m3⟩
  | 17 => ⟨S256x18944, .f32⟩
  | 18 => ⟨S2x128x18944, .f32⟩
  | 19 => ⟨S2x128x18944, .f32⟩
  | 20 => ⟨S2x128x18944, .f32⟩
  | 21 => ⟨S1x1x18944, .f32⟩
  | 22 => ⟨S2x128x18944, .f32⟩
  | 23 => ⟨S2x128x18944, .f32⟩
  | 24 => ⟨S1x1x18944, .f32⟩
  | 25 => ⟨S2x128x18944, .f32⟩
  | 26 => ⟨S2x128x18944, .f32⟩
  | 27 => ⟨S_, .f32⟩
  | 28 => ⟨S2x128x18944, .f32⟩
  | 29 => ⟨S2x128x18944, .f32⟩
  | 30 => ⟨S_, .f32⟩
  | 31 => ⟨S2x128x18944, .f32⟩
  | 32 => ⟨S2x128x18944, .f32⟩
  | 33 => ⟨S2x128x18944, .f32⟩
  | 34 => ⟨S_, .f32⟩
  | 35 => ⟨S2x128x18944, .f32⟩
  | 36 => ⟨S2x128x18944, .f32⟩
  | 37 => ⟨S2x128x18944, .f32⟩
  | 38 => ⟨S2x128x18944, .f32⟩
  | 39 => ⟨S_, .f32⟩
  | 40 => ⟨S2x128, .f32⟩
  | 41 => ⟨S2x128x1, .f32⟩
  | 42 => ⟨S_, .f32⟩
  | 43 => ⟨S2x128x1, .f32⟩
  | 44 => ⟨S2x128x1, .i1⟩
  | 45 => ⟨S_, .f32⟩
  | 46 => ⟨S2x128x1, .f32⟩
  | 47 => ⟨S2x128x1, .f32⟩
  | 48 => ⟨S253, .i32⟩
  | 49 => ⟨S_, .i32⟩
  | 50 => ⟨S253, .i32⟩
  | 51 => ⟨S253, .i32⟩
  | 52 => ⟨S253, .f32⟩
  | 53 => ⟨S_, .f32⟩
  | 54 => ⟨S253, .f32⟩
  | 55 => ⟨S253, .f32⟩
  | 56 => ⟨S1x1x253, .f32⟩
  | 57 => ⟨S2x128x253, .f32⟩
  | 58 => ⟨S2x128x253, .f32⟩
  | 59 => ⟨S2x128x253, .i1⟩
  | 60 => ⟨S_, .f32⟩
  | 61 => ⟨S_, .f32⟩
  | 62 => ⟨S2x128x253, .f32⟩
  | 63 => ⟨S2x128x253, .f32⟩
  | 64 => ⟨S2x128x253, .f32⟩
  | 65 => ⟨S_, .f32⟩
  | 66 => ⟨S2x128, .f32⟩
  | 67 => ⟨S2x128x1, .f32⟩
  | 68 => ⟨S_, .f32⟩
  | 69 => ⟨S_, .f32⟩
  | 70 => ⟨S2x128x1, .f32⟩
  | 71 => ⟨S2x128x1, .f32⟩
  | 72 => ⟨S_, .f32⟩
  | 73 => ⟨S2x128x1, .f32⟩
  | 74 => ⟨S2x128x1, .f32⟩
  | 75 => ⟨S2x128x18944, .f32⟩
  | 76 => ⟨S2x128x18944, .f32⟩
  | 77 => ⟨S_, .f32⟩
  | 78 => ⟨S_, .f32⟩
  | 79 => ⟨S_, .f32⟩
  | 80 => ⟨S2x128x18944, .f32⟩
  | 81 => ⟨S2x128x18944, .f32⟩
  | 82 => ⟨S_, .f32⟩
  | 83 => ⟨S2x128x18944, .f32⟩
  | 84 => ⟨S2x128x18944, .f32⟩
  | 85 => ⟨S2x128x18944, .fp8e4m3⟩
  | 86 => ⟨S256x18944, .fp8e4m3⟩
  | 87 => ⟨S256x7168, .f32⟩
  | 88 => ⟨S2x128x7168, .f32⟩
  | 89 => ⟨S2x128x7168, .f32⟩
  | 90 => ⟨S2x128x7168, .f32⟩
  | 91 => ⟨S1x1x7168, .f32⟩
  | 92 => ⟨S2x128x7168, .f32⟩
  | 93 => ⟨S2x128x7168, .f32⟩
  | 94 => ⟨S1x1x7168, .f32⟩
  | 95 => ⟨S2x128x7168, .f32⟩
  | 96 => ⟨S2x128x7168, .f32⟩
  | 97 => ⟨S2x128x7168, .f32⟩
  | 98 => ⟨S2x128x7168, .bf16⟩
  | _ => ⟨S2x128x7168, .bf16⟩

abbrev hbmTy (i : Nat) : BufTy := match i / 128 with
  | 0 => hbmTy0_0 i
  | 1 => hbmTy0_1 i
  | 2 => hbmTy0_2 i
  | _ => ⟨S2x128x7168, .bf16⟩

abbrev bufTy : (tb : Table) → Fin (tcTables nBuf tb) → BufTy
  | .hbm, ⟨i, _⟩ => hbmTy i
  | .local _ .vmem, ⟨0, _⟩ => ⟨S256x7168, .fp8e4m3⟩
  | .local _ .vmem, ⟨1, _⟩ => ⟨S7168x8960, .fp8e4m3⟩
  | .local _ .vmem, ⟨2, _⟩ => ⟨S256x8960, .f32⟩
  | .local _ .vmem, ⟨3, _⟩ => ⟨S256x6400, .fp8e4m3⟩
  | .local _ .vmem, ⟨4, _⟩ => ⟨S6400x7168, .fp8e4m3⟩
  | .local _ .vmem, ⟨5, _⟩ => ⟨S256x7168, .f32⟩
  | .local _ .vmem, ⟨6, _⟩ => ⟨S256x7168, .fp8e4m3⟩
  | .local _ .vmem, ⟨7, _⟩ => ⟨S7168x18944, .fp8e4m3⟩
  | .local _ .vmem, ⟨8, _⟩ => ⟨S256x18944, .f32⟩
  | .local _ .vmem, ⟨9, _⟩ => ⟨S256x18944, .fp8e4m3⟩
  | .local _ .vmem, ⟨10, _⟩ => ⟨S18944x7168, .fp8e4m3⟩
  | .local _ .vmem, ⟨11, _⟩ => ⟨S256x7168, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_cst_10 : Ref sig .tc := ⟨.hbm, 75, rfl⟩
abbrev main_call1_v0 : Ref sig .tc := ⟨.hbm, 76, rfl⟩
abbrev main_call1_v1 : Ref sig .tc := ⟨.hbm, 77, rfl⟩
abbrev main_v43 : Ref sig .tc := ⟨.hbm, 78, rfl⟩
abbrev main_cst_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_12 : Ref sig .tc := ⟨.hbm, 84, rfl⟩
abbrev main_cst_13 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_14 : Ref sig .tc := ⟨.hbm, 116, rfl⟩
abbrev main_v73 : Ref sig .tc := ⟨.hbm, 117, rfl⟩
abbrev main_v74 : Ref sig .tc := ⟨.hbm, 118, rfl⟩
abbrev main_cst_15 : Ref sig .tc := ⟨.hbm, 119, rfl⟩
abbrev main_v75 : Ref sig .tc := ⟨.hbm, 120, rfl⟩
abbrev main_cst_16 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_17 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_18 : Ref sig .tc := ⟨.hbm, 138, rfl⟩
abbrev main_v91 : Ref sig .tc := ⟨.hbm, 139, rfl⟩
abbrev main_v92 : Ref sig .tc := ⟨.hbm, 140, rfl⟩
abbrev main_cst_19 : Ref sig .tc := ⟨.hbm, 141, rfl⟩
abbrev main_v93 : Ref sig .tc := ⟨.hbm, 142, rfl⟩
abbrev main_v94 : Ref sig .tc := ⟨.hbm, 143, rfl⟩
abbrev main_cst_20 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_21 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_22 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_23 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v107 : Ref sig .tc := ⟨.hbm, 163, rfl⟩
abbrev main_cst_24 : Ref sig .tc := ⟨.hbm, 164, rfl⟩
abbrev main_v108 : Ref sig .tc := ⟨.hbm, 165, rfl⟩
abbrev main_v109 : Ref sig .tc := ⟨.hbm, 166, rfl⟩
abbrev main_cst_25 : Ref sig .tc := ⟨.hbm, 167, rfl⟩
abbrev main_call4_v0 : Ref sig .tc := ⟨.hbm, 168, rfl⟩
abbrev main_call4_v1 : Ref sig .tc := ⟨.hbm, 169, rfl⟩
abbrev main_v110 : Ref sig .tc := ⟨.hbm, 170, rfl⟩
abbrev main_cst_26 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_27 : Ref sig .tc := ⟨.hbm, 176, rfl⟩
abbrev main_cst_28 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_call5_v3 : Ref sig .tc := ⟨.hbm, 181, rfl⟩
abbrev main_call5_v4 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_29 : Ref sig .tc := ⟨.hbm, 197, rfl⟩
abbrev main_v129 : Ref sig .tc := ⟨.hbm, 198, rfl⟩
abbrev main_v130 : Ref sig .tc := ⟨.hbm, 199, rfl⟩
abbrev main_cst_30 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_31 : Ref sig .tc := ⟨.hbm, 206, rfl⟩
abbrev main_v136 : Ref sig .tc := ⟨.hbm, 207, rfl⟩
abbrev main_v137 : Ref sig .tc := ⟨.hbm, 208, rfl⟩
abbrev main_cst_32 : Ref sig .tc := ⟨.hbm, 209, rfl⟩
abbrev main_v138 : Ref sig .tc := ⟨.hbm, 210, rfl⟩
abbrev main_v139 : Ref sig .tc := ⟨.hbm, 211, rfl⟩
abbrev main_cst_33 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_cst_34 : Ref sig .tc := ⟨.hbm, 225, rfl⟩
abbrev main_v152 : Ref sig .tc := ⟨.hbm, 226, rfl⟩
abbrev main_v153 : Ref sig .tc := ⟨.hbm, 227, rfl⟩
abbrev main_cst_35 : Ref sig .tc := ⟨.hbm, 228, rfl⟩
abbrev main_v154 : Ref sig .tc := ⟨.hbm, 229, rfl⟩
abbrev main_v155 : Ref sig .tc := ⟨.hbm, 230, rfl⟩
abbrev main_cst_36 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_c_37 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_cst_38 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_cst_39 : Ref sig .tc := ⟨.hbm, 246, rfl⟩
abbrev main_call6_v0 : Ref sig .tc := ⟨.hbm, 247, rfl⟩
abbrev main_call6_v1 : Ref sig .tc := ⟨.hbm, 248, rfl⟩
abbrev main_call6_v2 : Ref sig .tc := ⟨.hbm, 249, rfl⟩
abbrev main_v168 : Ref sig .tc := ⟨.hbm, 250, rfl⟩
abbrev main_cst_40 : Ref sig .tc := ⟨.hbm, 251, rfl⟩
abbrev main_v169 : Ref sig .tc := ⟨.hbm, 252, rfl⟩
abbrev main_v170 : Ref sig .tc := ⟨.hbm, 253, rfl⟩
abbrev main_cst_41 : Ref sig .tc := ⟨.hbm, 254, rfl⟩
abbrev main_call7_v0 : Ref sig .tc := ⟨.hbm, 255, rfl⟩
abbrev main_call7_v1 : Ref sig .tc := ⟨.hbm, 256, rfl⟩
abbrev main_v171 : Ref sig .tc := ⟨.hbm, 257, rfl⟩
abbrev main_cst_42 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_cst_43 : Ref sig .tc := ⟨.hbm, 263, rfl⟩
abbrev main_cst_44 : Ref sig .tc := ⟨.hbm, 264, rfl⟩
abbrev main_call8_v0 : Ref sig .tc := ⟨.hbm, 265, rfl⟩
abbrev main_call8_v1 : Ref sig .tc := ⟨.hbm, 266, rfl⟩
abbrev main_call8_v2 : Ref sig .tc := ⟨.hbm, 267, rfl⟩
abbrev main_call8_v3 : Ref sig .tc := ⟨.hbm, 268, rfl⟩
abbrev main_call8_v4 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_cst_45 : Ref sig .tc := ⟨.hbm, 283, rfl⟩
abbrev main_v189 : Ref sig .tc := ⟨.hbm, 284, rfl⟩
abbrev main_v190 : Ref sig .tc := ⟨.hbm, 285, rfl⟩
abbrev main_cst_46 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_cst_47 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_cst_48 : Ref sig .tc := ⟨.hbm, 295, rfl⟩
abbrev main_v198 : Ref sig .tc := ⟨.hbm, 296, rfl⟩
abbrev main_v199 : Ref sig .tc := ⟨.hbm, 297, rfl⟩
abbrev main_cst_49 : Ref sig .tc := ⟨.hbm, 298, rfl⟩
abbrev main_v200 : Ref sig .tc := ⟨.hbm, 299, rfl⟩
abbrev main_v201 : Ref sig .tc := ⟨.hbm, 300, rfl⟩
abbrev main_cst_50 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_c_51 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_cst_52 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_cst_53 : Ref sig .tc := ⟨.hbm, 316, rfl⟩
abbrev main_call9_v0 : Ref sig .tc := ⟨.hbm, 317, rfl⟩
abbrev main_call9_v1 : Ref sig .tc := ⟨.hbm, 318, rfl⟩
abbrev main_call9_v2 : Ref sig .tc := ⟨.hbm, 319, rfl⟩
abbrev main_v214 : Ref sig .tc := ⟨.hbm, 320, rfl⟩
abbrev main_cst_54 : Ref sig .tc := ⟨.hbm, 321, rfl⟩
abbrev main_v215 : Ref sig .tc := ⟨.hbm, 322, rfl⟩
abbrev main_v216 : Ref sig .tc := ⟨.hbm, 323, rfl⟩
abbrev main_cst_55 : Ref sig .tc := ⟨.hbm, 324, rfl⟩
abbrev main_call10_v0 : Ref sig .tc := ⟨.hbm, 325, rfl⟩
abbrev main_call10_v1 : Ref sig .tc := ⟨.hbm, 326, rfl⟩
abbrev main_v217 : Ref sig .tc := ⟨.hbm, 327, rfl⟩
abbrev main_cst_56 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_cst_57 : Ref sig .tc := ⟨.hbm, 333, rfl⟩
abbrev main_cst_58 : Ref sig .tc := ⟨.hbm, 334, rfl⟩
abbrev main_call11_v0 : Ref sig .tc := ⟨.hbm, 335, rfl⟩
abbrev main_call11_v1 : Ref sig .tc := ⟨.hbm, 336, rfl⟩
abbrev main_call11_v2 : Ref sig .tc := ⟨.hbm, 337, rfl⟩
abbrev main_call11_v3 : Ref sig .tc := ⟨.hbm, 338, rfl⟩
abbrev main_call11_v4 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11

abbrev nD : Nat := 1
abbrev τ : Topo := Topo.v7x

variable {F : FTy → Type} [FloatOps F]

abbrev grid0 : Pipeline.Grid := .none

abbrev stage0_0 : Fin 1 → Memref sig .tc .vmem S256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S256x6400 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S6400x7168 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x7168 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

abbrev stage2_0 : Fin 1 → Memref sig .tc .vmem S256x7168 .fp8e4m3 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S7168x18944 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x18944 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

abbrev stage3_0 : Fin 1 → Memref sig .tc .vmem S256x18944 .fp8e4m3 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S18944x7168 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S256x7168 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
-- ==== Proof.Quant.lean ====
/- The quantiser's scale, two ways. One side counts the powers of two that do not exceed `t` and builds the next power
   from the count's bits; the other takes the least listed power of two above `t`. They are the same power of two, and
   its reciprocal is the power the first side multiplies by. -/
module

public import Idealize.ShloMosaic.Lib.Pointwise
public import Idealize.ShloMosaic.Lib.IndicatorCount
public import Idealize.ShloMosaic.Lib.IdealHost

@[expose] public section

set_option maxRecDepth 16384

noncomputable section

namespace Cert.Enc

open Idealize.ShloMosaic

/-- `2 ^ k` as an extended real. -/
def pow2 (k : ℤ) : EReal := (((2 : ℝ) ^ k : ℝ) : EReal)

theorem pow2_le {a b : ℤ} (h : a ≤ b) : pow2 a ≤ pow2 b :=
  EReal.coe_le_coe_iff.2 (zpow_le_zpow_right₀ (by norm_num) h)

theorem pow2_zero : pow2 0 = 1 := by simp [pow2]

theorem pow2_ne_zero (k : ℤ) : pow2 k ≠ 0 := by
  have h : ((2 : ℝ) ^ k) ≠ 0 := zpow_ne_zero _ (by norm_num)
  simpa [pow2] using h

theorem word_parts : ∀ n : Fin 255,
    (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

/-- The f32 word whose exponent field is `n`, for a normal exponent, denotes `2 ^ (n - 127)`. -/
theorem ofBits_exp (n : ℕ) (h1 : 1 ≤ n) (h2 : n ≤ 254) :
    Ideal.ofBits .f32 (BitVec.ofNat 32 n <<< 23) = pow2 ((n : ℤ) - 127) := by
  obtain ⟨hs, he, hf⟩ := word_parts ⟨n, by omega⟩
  have e : (8388608 : ℝ) * (2 : ℝ) ^ ((n : ℤ) - 127 - 23) = (2 : ℝ) ^ ((n : ℤ) - 127) := by
    have h23 : (8388608 : ℝ) = (2 : ℝ) ^ (23 : ℤ) := by norm_num
    rw [h23, ← zpow_add₀ (two_ne_zero : (2 : ℝ) ≠ 0)]
    exact congrArg (fun k : ℤ => (2 : ℝ) ^ k) (by omega)
  have e3 : (1 : ℝ) * ((2 ^ 23 + 0 : ℕ) : ℝ) * (2 : ℝ) ^ ((n : ℤ) - (2 ^ (8 - 1) - 1) - (23 : ℕ))
      = (2 : ℝ) ^ ((n : ℤ) - 127) := by
    rw [← e, one_mul]
    exact congrArg₂ (· * ·) (by norm_num) (congrArg (fun k : ℤ => (2 : ℝ) ^ k) (by norm_num))
  show Ideal.ieee 8 23 _ = _
  unfold Ideal.ieee pow2
  have h255 : ¬ n = 2 ^ 8 - 1 := by norm_num; omega
  have h0 : ¬ n = 0 := by omega
  have hb : (0#1 == 1#1) = false := rfl
  simp only [Nat.reduceAdd, hs, he, hf, if_neg h255, if_neg h0, hb, Bool.false_eq_true, if_false]
  exact congrArg _ e3

/-- How many of the powers `2 ^ -126 … 2 ^ 125` do not exceed `t`. -/
def cnt (t : EReal) : ℕ := (Finset.univ.filter fun x : Fin 252 => pow2 ((x.val : ℤ) - 126) ≤ t).card

theorem cnt_le (t : EReal) : cnt t ≤ 252 := (Finset.card_filter_le _ _).trans (by simp)

/-- The powers that do not exceed `t` are the first `cnt t`. -/
theorem cnt_spec (t : EReal) (x : Fin 252) : pow2 ((x.val : ℤ) - 126) ≤ t ↔ x.val < cnt t := by
  constructor
  · intro h
    have hs : Finset.Iic x ⊆ Finset.univ.filter fun x : Fin 252 => pow2 ((x.val : ℤ) - 126) ≤ t := by
      intro y hy
      have hy' : y ≤ x := Finset.mem_Iic.1 hy
      have hy'' : y.val ≤ x.val := hy'
      exact Finset.mem_filter.2 ⟨Finset.mem_univ _, (pow2_le (by omega)).trans h⟩
    have hc := Finset.card_le_card hs
    rw [Fin.card_Iic] at hc
    unfold cnt
    omega
  · intro h
    by_contra hn
    have hs : (Finset.univ.filter fun x : Fin 252 => pow2 ((x.val : ℤ) - 126) ≤ t) ⊆ Finset.Iio x := by
      intro y hy
      have hy' := (Finset.mem_filter.1 hy).2
      refine Finset.mem_Iio.2 (lt_of_not_ge fun hxy => hn ?_)
      have hxy' : x.val ≤ y.val := hxy
      exact (pow2_le (by omega)).trans hy'
    have hc := Finset.card_le_card hs
    rw [Fin.card_Iio] at hc
    unfold cnt at h
    omega

/-! ### The count, in words -/

/-- The exponent, as a word: the count of the powers of two that do not exceed `t`, less 126; zero for a zero row. -/
def kExp (t : EReal) : BitVec 32 :=
  if t = 0 then 0#32 else
    IntOp.subi (Finset.fold IntOp.addi (0#32) (fun x : Fin 252 => BitVec.setWidth 32 (BitVec.ofBool (decide
      (Ideal.ofBits FTy.f32 (IntOp.shli ArithUnit.vector (IntOp.addi (BitVec.ofNat 32 x.val) 1#32) 23#32) ≤ t))))
      Finset.univ) 126#32

def kUp (t : EReal) : EReal :=
  Ideal.ofBits FTy.f32 (IntOp.shli ArithUnit.vector (IntOp.addi 127#32 (kExp t)) 23#32)

def kDown (t : EReal) : EReal :=
  Ideal.ofBits FTy.f32 (IntOp.shli ArithUnit.vector (IntOp.subi 127#32 (kExp t)) 23#32)

theorem shli23 (x : BitVec 32) : IntOp.shli ArithUnit.vector x 23#32 = x <<< 23 := rfl

theorem pow_word (x : Fin 252) :
    Ideal.ofBits FTy.f32 (IntOp.shli ArithUnit.vector (IntOp.addi (BitVec.ofNat 32 x.val) 1#32) 23#32)
      = pow2 ((x.val : ℤ) - 126) := by
  have e : IntOp.addi (BitVec.ofNat 32 x.val) 1#32 = BitVec.ofNat 32 (x.val + 1) := by
    show BitVec.ofNat 32 x.val + 1#32 = _
    rw [BitVec.ofNat_add]
  rw [shli23, e, ofBits_exp _ (by omega) (by omega)]
  congr 1
  push_cast
  ring

theorem fold_cnt (t : EReal) :
    Finset.fold IntOp.addi (0#32) (fun x : Fin 252 => BitVec.setWidth 32 (BitVec.ofBool (decide
      (Ideal.ofBits FTy.f32 (IntOp.shli ArithUnit.vector (IntOp.addi (BitVec.ofNat 32 x.val) 1#32) 23#32) ≤ t))))
      Finset.univ = BitVec.ofNat 32 (cnt t) := by
  rw [IndicatorCount.fold_addi_setWidth_eq_card]
  unfold cnt
  congr 2
  ext x
  rw [Finset.mem_filter, Finset.mem_filter, pow_word]
  by_cases h : pow2 ((x.val : ℤ) - 126) ≤ t <;> simp [h]

theorem up_word : ∀ c : Fin 253,
    IntOp.addi 127#32 (IntOp.subi (BitVec.ofNat 32 c.val) 126#32) = BitVec.ofNat 32 (c.val + 1) := by decide +kernel

theorem down_word : ∀ c : Fin 253,
    IntOp.subi 127#32 (IntOp.subi (BitVec.ofNat 32 c.val) 126#32) = BitVec.ofNat 32 (253 - c.val) := by decide +kernel

theorem kUp_eq (t : EReal) : kUp t = if t = 0 then 1 else pow2 ((cnt t : ℤ) - 126) := by
  unfold kUp kExp
  by_cases h : t = 0
  · rw [if_pos h, if_pos h, shli23]
    show Ideal.ofBits FTy.f32 (BitVec.ofNat 32 127 <<< 23) = 1
    rw [ofBits_exp _ (by omega) (by omega), ← pow2_zero]
    rfl
  · have hc := cnt_le t
    rw [if_neg h, if_neg h, fold_cnt, up_word ⟨cnt t, by omega⟩, shli23, ofBits_exp _ (by omega) (by omega)]
    congr 1
    push_cast
    ring

theorem kDown_eq (t : EReal) : kDown t = if t = 0 then 1 else pow2 (126 - (cnt t : ℤ)) := by
  unfold kDown kExp
  by_cases h : t = 0
  · rw [if_pos h, if_pos h, shli23]
    show Ideal.ofBits FTy.f32 (BitVec.ofNat 32 127 <<< 23) = 1
    rw [ofBits_exp _ (by omega) (by omega), ← pow2_zero]
    rfl
  · have hc := cnt_le t
    rw [if_neg h, if_neg h, fold_cnt, down_word ⟨cnt t, by omega⟩, shli23, ofBits_exp _ (by omega) (by omega)]
    congr 1
    push_cast [Nat.cast_sub (by omega : cnt t ≤ 253)]
    ring

/-! ### The least power above -/

/-- The least of the powers `2 ^ -126 … 2 ^ 126` above `t`, and `2 ^ 126` when none is. -/
theorem least_eq (t : EReal) :
    Finset.fold min (⊤ : EReal) (fun x : Fin 253 =>
      if t < pow2 ((x.val : ℤ) - 126) then pow2 ((x.val : ℤ) - 126) else pow2 126) Finset.univ
      = pow2 ((cnt t : ℤ) - 126) := by
  have hc := cnt_le t
  apply le_antisymm
  · refine (Finset.fold_min_le _).2 (Or.inr ⟨⟨cnt t, by omega⟩, Finset.mem_univ _, ?_⟩)
    dsimp only
    by_cases h : cnt t = 252
    · have e : ((cnt t : ℕ) : ℤ) - 126 = 126 := by omega
      rw [e]
      split_ifs <;> exact le_rfl
    · rw [if_pos]
      refine lt_of_not_ge fun hle => ?_
      exact lt_irrefl _ ((cnt_spec t ⟨cnt t, by omega⟩).1 hle)
  · refine (Finset.le_fold_min _).2 ⟨le_top, fun x _ => ?_⟩
    split_ifs with h
    · refine pow2_le ?_
      by_contra hlt
      have hx : x.val < cnt t := by omega
      exact absurd ((cnt_spec t ⟨x.val, by omega⟩).2 hx) (not_le_of_gt h)
    · exact pow2_le (by omega)

/-! ### The row quantiser -/

/-- The nearest f32 to `1 / 448`. -/
def c448 : EReal := Ideal.ofBits .f32 0x3B124925#32

theorem c448_parts : (0x3B124925#32).extractLsb' 31 1 = 0#1 ∧ ((0x3B124925#32).extractLsb' 23 8).toNat = 118
    ∧ ((0x3B124925#32).extractLsb' 0 23).toNat = 1198373 := by decide +kernel

theorem c448_ne_zero : c448 ≠ 0 := by
  obtain ⟨hs, he, hf⟩ := c448_parts
  have hb : (0#1 == 1#1) = false := rfl
  have h255 : ¬ (118 : ℕ) = 2 ^ 8 - 1 := by norm_num
  have h0 : ¬ (118 : ℕ) = 0 := by norm_num
  have h : (1 : ℝ) * ((2 ^ 23 + 1198373 : ℕ) : ℝ) * (2 : ℝ) ^ ((118 : ℤ) - (2 ^ (8 - 1) - 1) - 23) ≠ 0 := by
    refine mul_ne_zero (by norm_num) (zpow_ne_zero _ (by norm_num))
  show Ideal.ieee 8 23 0x3B124925#32 ≠ 0
  unfold Ideal.ieee
  simp only [Nat.reduceAdd, hs, he, hf, if_neg h255, if_neg h0, hb]
  intro e
  refine h ?_
  have e' := EReal.coe_eq_zero.1 e
  simpa using e'

/-- The scale of a row whose greatest magnitude is `a`. -/
def scaleOf (a : EReal) : EReal := if a = 0 then 1 else pow2 ((cnt (a * c448) : ℤ) - 126)

/-- Its reciprocal. -/
def invOf (a : EReal) : EReal := if a = 0 then 1 else pow2 (126 - (cnt (a * c448) : ℤ))

theorem mul_c448_eq_zero (a : EReal) : a * c448 = 0 ↔ a = 0 := by
  rw [mul_eq_zero]
  exact ⟨fun h => h.resolve_right c448_ne_zero, Or.inl⟩

theorem kUp_scaleOf (a : EReal) : kUp (a * c448) = scaleOf a := by
  rw [kUp_eq]
  unfold scaleOf
  simp only [mul_c448_eq_zero]

theorem kDown_invOf (a : EReal) : kDown (a * c448) = invOf a := by
  rw [kDown_eq]
  unfold invOf
  simp only [mul_c448_eq_zero]

theorem div_scaleOf (a : EReal) : Ideal.div 1 (scaleOf a) = invOf a := by
  unfold scaleOf invOf Ideal.div
  by_cases h : a = 0
  · rw [if_pos h, if_pos h, if_neg one_ne_zero]
    simp
  · rw [if_neg h, if_neg h, if_neg (pow2_ne_zero _), one_mul]
    unfold pow2
    rw [← EReal.coe_inv, ← zpow_neg]
    congr 2
    ring

/-- The greatest magnitude of a row. -/
def amax {n : ℕ} (v : Fin n → EReal) : EReal :=
  Finset.fold max (Ideal.ofBits .f32 0xFF800000#32) (fun k => (FloatOps.absf (v k : Ideal .f32) : Ideal .f32)) Finset.univ

/-- A row's scale. -/
def qscale {n : ℕ} (v : Fin n → EReal) : EReal := scaleOf (amax v)

/-- A row's codes: the scaled row, clipped to ±448. -/
def qcode {n : ℕ} (v : Fin n → EReal) (j : Fin n) : EReal :=
  min (Ideal.ofBits .f32 0x43E00000#32) (max (Ideal.ofBits .f32 0xC3E00000#32) (v j * invOf (amax v)))

end Cert.Enc
-- ==== Proof.Sem.lean ====
/- The layer's rows, as functions of rows: layer norm, a projection's row, the exact GELU, one head's attention row. -/
module

public import proofs.«01_k».proof.Proof.Quant

@[expose] public section

noncomputable section

namespace Cert.Enc

open Idealize.ShloMosaic

/-- The mean of a row of 7168. -/
def mean (v : Fin 7168 → EReal) : EReal := Ideal.div (∑ k, v k) (Ideal.ofBits .f32 0x45E00000#32)

/-- Layer norm of a row of 7168. -/
def lnRow (v g b : Fin 7168 → EReal) (j : Fin 7168) : EReal :=
  (v j - mean v) * Ideal.rsqrt (Ideal.div (∑ k, (v k - mean v) * (v k - mean v)) (Ideal.ofBits .f32 0x45E00000#32)
    + Ideal.ofBits .f32 0x358637BD#32) * g j + b j

theorem lnRow_congr {v v' g g' b b' : Fin 7168 → EReal} (hv : ∀ j, v j = v' j) (hg : ∀ j, g j = g' j) (hb : ∀ j, b j = b' j) :
    lnRow v g b = lnRow v' g' b' := by
  rw [funext hv, funext hg, funext hb]

theorem qcode_congr {n : ℕ} {v v' : Fin n → EReal} {j j' : Fin n} (hv : v = v') (hj : j = j') : qcode v j = qcode v' j' := by
  rw [hv, hj]

theorem qscale_congr {n : ℕ} {v v' : Fin n → EReal} (hv : v = v') : qscale v = qscale v' := by
  rw [hv]

/-- One row of a projection: codes times weights, the row's scale, the channel scales, the bias. -/
def proj {K N : ℕ} (c : Fin K → EReal) (w : Fin K → Fin N → EReal) (ts : EReal) (s b : Fin N → EReal) (j : Fin N) : EReal :=
  (∑ k, c k * w k j) * ts * s j + b j

theorem proj_congr {K N N' : ℕ} {c c' : Fin K → EReal} {w : Fin K → Fin N → EReal} {w' : Fin K → Fin N' → EReal} {ts ts' : EReal}
    {s b : Fin N → EReal} {s' b' : Fin N' → EReal} {j : Fin N} {j' : Fin N'} (hc : ∀ k, c k = c' k) (hw : ∀ k, w k j = w' k j')
    (ht : ts = ts') (hs : s j = s' j') (hb : b j = b' j') : proj c w ts s b j = proj c' w' ts' s' b' j' := by
  simp only [proj, hc, hw, ht, hs, hb]

/-- The residual sum. -/
def resid (x y : EReal) : EReal := x + y

/-- The exact GELU. -/
def gelu (t : EReal) : EReal :=
  Ideal.ofBits .f32 0x3F000000#32 * t * (Ideal.ofBits .f32 0x3F800000#32 + Ideal.erf (t * Ideal.ofBits .f32 0x3F3504F3#32))

/-- One query's scaled score against key `s`. -/
def score (q : Fin 160 → EReal) (k : Fin 128 → Fin 160 → EReal) (s : Fin 128) : EReal :=
  (∑ d, q d * k s d) * Ideal.ofBits .f32 0x3DA1E89B#32

/-- The greatest score. -/
def scoreMax (q : Fin 160 → EReal) (k : Fin 128 → Fin 160 → EReal) : EReal :=
  Finset.fold max (Ideal.ofBits .f32 0xFF800000#32) (fun s => score q k s) Finset.univ

/-- One query's attention over the 128 positions of its batch. -/
def attnRow (q : Fin 160 → EReal) (k v : Fin 128 → Fin 160 → EReal) (d : Fin 160) : EReal :=
  ∑ s, Ideal.div (Ideal.exp (score q k s - scoreMax q k)) (∑ s, Ideal.exp (score q k s - scoreMax q k)) * v s d

theorem attnRow_congr {q q' : Fin 160 → EReal} {k k' v v' : Fin 128 → Fin 160 → EReal} {d d' : Fin 160}
    (hq : ∀ d, q d = q' d) (hk : ∀ s d, k s d = k' s d) (hv : ∀ s d, v s d = v' s d) (hd : d = d') :
    attnRow q k v d = attnRow q' k' v' d' := by
  rw [funext hq, funext fun s => funext (hk s), funext fun s => funext (hv s), hd]

end Cert.Enc
-- ==== Proof.KPay0.lean ====
/- Region 0: layer norm and the row quantiser, on one block of 64 rows. -/
module

public import proofs.«01_k».proof.Proof.Gen.KernelIdeal.Frame.Region0
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

section Block

variable (v0 : FVec Ideal S64x7168 .bf16) (v1 v2 : FVec Ideal S1x7168 .f32) (r : Fin 64)

theorem k0_ln (l : Fin 7168) :
    (k0_pay4 (F := Ideal) v0 v1 v2 : FVec Ideal S64x7168 .f32) (ix2 r l)
      = lnRow (fun j => v0 (ix2 r j)) (fun j => v1 (ix2 0 j)) (fun j => v2 (ix2 0 j)) l := by
  pointwise [k0_pay4]
  rfl

theorem k0_codes (l : Fin 7168) :
    (k0_pay3 (F := Ideal) (k0_pay4 v0 v1 v2) (k0_pay6 (F := Ideal) v0 v1 v2) (k0_pay7 (F := Ideal) v0 v1 v2) : FVec Ideal S64x7168 .fp8e4m3) (ix2 r l)
      = qcode (lnRow (fun j => v0 (ix2 r j)) (fun j => v1 (ix2 0 j)) (fun j => v2 (ix2 0 j))) l := by
  have e : lnRow (fun j => v0 (ix2 r j)) (fun j => v1 (ix2 0 j)) (fun j => v2 (ix2 0 j))
      = fun l => (k0_pay4 (F := Ideal) v0 v1 v2 : FVec Ideal S64x7168 .f32) (ix2 r l) :=
    funext fun l => (k0_ln v0 v1 v2 r l).symm
  rw [e]
  unfold k0_pay6 k0_pay7 k0_pay5
  generalize k0_pay4 (F := Ideal) v0 v1 v2 = w
  pointwise [k0_pay1, k0_pay3]
  exact congrArg (fun z => min (Ideal.ofBits .f32 0x43E00000#32) (max (Ideal.ofBits .f32 0xC3E00000#32) (w (ix2 r l) * z)))
    (kDown_invOf (amax fun k => w (ix2 r k)))

theorem k0_scale :
    (k0_pay2 (F := Ideal) (k0_pay6 (F := Ideal) v0 v1 v2) (k0_pay7 (F := Ideal) v0 v1 v2) : FVec Ideal S64x1 .f32) (ix2 r 0)
      = qscale (lnRow (fun j => v0 (ix2 r j)) (fun j => v1 (ix2 0 j)) (fun j => v2 (ix2 0 j))) := by
  have e : lnRow (fun j => v0 (ix2 r j)) (fun j => v1 (ix2 0 j)) (fun j => v2 (ix2 0 j))
      = fun l => (k0_pay4 (F := Ideal) v0 v1 v2 : FVec Ideal S64x7168 .f32) (ix2 r l) :=
    funext fun l => (k0_ln v0 v1 v2 r l).symm
  rw [e]
  unfold k0_pay6 k0_pay7 k0_pay5
  generalize k0_pay4 (F := Ideal) v0 v1 v2 = w
  pointwise [k0_pay1, k0_pay2]
  exact kUp_scaleOf (amax fun k => w (ix2 r k))

end Block

end Cert.Enc.K
-- ==== Proof.KLn0.lean ====
/- Region 0: layer norm and the row quantiser, 64 rows at a point: what the region leaves in its two result arrays. -/
module

public import proofs.«01_k».proof.Proof.KPay0

@[expose] public section

set_option maxRecDepth 16384

noncomputable section

namespace Cert.Enc.K

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem k0_ld8 (x0 : Vec Ideal S64x7168 .bf16) (x1 x2 : Vec Ideal S1x7168 .f32) : k0_pay8 (F := Ideal) x0 x1 x2 = k0_pay6 x0 x1 x2 := by
  unfold k0_pay8
  rw [View.ld_unit_zero (by decide), View.ld_unit_zero (by decide), View.ld_unit_zero (by decide)]

theorem k0_ld9 (x0 : Vec Ideal S64x7168 .bf16) (x1 x2 : Vec Ideal S1x7168 .f32) : k0_pay9 (F := Ideal) x0 x1 x2 = k0_pay7 x0 x1 x2 := by
  unfold k0_pay9
  rw [View.ld_unit_zero (by decide), View.ld_unit_zero (by decide), View.ld_unit_zero (by decide)]

/-- Row `r` of the region's input, layer-normed. -/
def ln0 (c : Dev nD) (r : Fin 256) : Fin 7168 → EReal :=
  lnRow (fun j => (V c main_v0 : FVec Ideal S256x7168 .bf16) (ix2 r j)) (fun j => (V c main_v1 : FVec Ideal S1x7168 .f32) (ix2 0 j))
    (fun j => (V c main_v2 : FVec Ideal S1x7168 .f32) (ix2 0 j))

theorem codes0 (c : Dev nD) : (dat0 V c).arrAt 3 cfg0.N
    = (fun i => qcode (ln0 V c (i 0)) (i 1) : FVec Ideal S256x7168 .fp8e4m3) := by
  refine (dat0 V c).arrAt_eq_of_covers 3 _ (by decide +kernel) fun t _ y => ?_
  blk_simp
  rw [after0_3]; frame_out
  rw [k0_ld8, k0_ld9]
  idx_vars y
  refine (k0_codes _ _ _ _ _).trans ?_
  unfold ln0
  refine qcode_congr (lnRow_congr (fun j => ?_) (fun j => ?_) (fun j => ?_)) (Fin.ext ?_)
  · blk_ext [iblk0, idx0 t]
  · blk_ext [iblk0, idx0 t]
  · blk_ext [iblk0, idx0 t]
  · blk_simp [idx0 t]

theorem scale0 (c : Dev nD) : (dat0 V c).arrAt 4 cfg0.N
    = (fun i => qscale (ln0 V c (i 0)) : FVec Ideal S256x1 .f32) := by
  refine (dat0 V c).arrAt_eq_of_covers 4 _ (by decide +kernel) fun t _ y => ?_
  blk_simp
  rw [after0_4]; frame_out
  rw [k0_ld8, k0_ld9]
  idx_vars y
  obtain rfl : y1 = 0 := Subsingleton.elim _ _
  refine (k0_scale _ _ _ _).trans ?_
  unfold ln0
  refine qscale_congr (lnRow_congr (fun j => ?_) (fun j => ?_) (fun j => ?_))
  · blk_ext [iblk0, idx0 t]
  · blk_ext [iblk0, idx0 t]
  · blk_ext [iblk0, idx0 t]

end Cert.Enc.K
-- ==== Proof.KPay5.lean ====
/- Region 5: layer norm and the row quantiser, on one block of 64 rows. -/
module

public import proofs.«01_k».proof.Proof.Gen.KernelIdeal.Frame.Region5
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

section Block

variable (v0 : FVec Ideal S64x7168 .f32) (v1 v2 : FVec Ideal S1x7168 .f32) (r : Fin 64)

theorem k5_ln (l : Fin 7168) :
    (k5_pay4 (F := Ideal) v0 v1 v2 : FVec Ideal S64x7168 .f32) (ix2 r l)
      = lnRow (fun j => v0 (ix2 r j)) (fun j => v1 (ix2 0 j)) (fun j => v2 (ix2 0 j)) l := by
  pointwise [k5_pay4]
  rfl

theorem k5_codes (l : Fin 7168) :
    (k5_pay3 (F := Ideal) (k5_pay4 v0 v1 v2) (k5_pay6 (F := Ideal) v0 v1 v2) (k5_pay7 (F := Ideal) v0 v1 v2) : FVec Ideal S64x7168 .fp8e4m3) (ix2 r l)
      = qcode (lnRow (fun j => v0 (ix2 r j)) (fun j => v1 (ix2 0 j)) (fun j => v2 (ix2 0 j))) l := by
  have e : lnRow (fun j => v0 (ix2 r j)) (fun j => v1 (ix2 0 j)) (fun j => v2 (ix2 0 j))
      = fun l => (k5_pay4 (F := Ideal) v0 v1 v2 : FVec Ideal S64x7168 .f32) (ix2 r l) :=
    funext fun l => (k5_ln v0 v1 v2 r l).symm
  rw [e]
  unfold k5_pay6 k5_pay7 k5_pay5
  generalize k5_pay4 (F := Ideal) v0 v1 v2 = w
  pointwise [k5_pay1, k5_pay3]
  exact congrArg (fun z => min (Ideal.ofBits .f32 0x43E00000#32) (max (Ideal.ofBits .f32 0xC3E00000#32) (w (ix2 r l) * z)))
    (kDown_invOf (amax fun k => w (ix2 r k)))

theorem k5_scale :
    (k5_pay2 (F := Ideal) (k5_pay6 (F := Ideal) v0 v1 v2) (k5_pay7 (F := Ideal) v0 v1 v2) : FVec Ideal S64x1 .f32) (ix2 r 0)
      = qscale (lnRow (fun j => v0 (ix2 r j)) (fun j => v1 (ix2 0 j)) (fun j => v2 (ix2 0 j))) := by
  have e : lnRow (fun j => v0 (ix2 r j)) (fun j => v1 (ix2 0 j)) (fun j => v2 (ix2 0 j))
      = fun l => (k5_pay4 (F := Ideal) v0 v1 v2 : FVec Ideal S64x7168 .f32) (ix2 r l) :=
    funext fun l => (k5_ln v0 v1 v2 r l).symm
  rw [e]
  unfold k5_pay6 k5_pay7 k5_pay5
  generalize k5_pay4 (F := Ideal) v0 v1 v2 = w
  pointwise [k5_pay1, k5_pay2]
  exact kUp_scaleOf (amax fun k => w (ix2 r k))

end Block

end Cert.Enc.K
-- ==== Proof.KLn5.lean ====
/- Region 5: layer norm and the row quantiser, 64 rows at a point: what the region leaves in its two result arrays. -/
module

public import proofs.«01_k».proof.Proof.KPay5

@[expose] public section

set_option maxRecDepth 16384

noncomputable section

namespace Cert.Enc.K

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx5 : ∀ t : Fin cfg5.N, win5_0.index t = ![t.val, 0] ∧ win5_1.index t = ![0, 0] ∧ win5_2.index t = ![0, 0]
    ∧ win5_3.index t = ![t.val, 0] ∧ win5_4.index t = ![t.val, 0] :=
  (by decide +kernel : ∀ t : Fin grid5.N, _)

theorem k5_ld8 (x0 : Vec Ideal S64x7168 .f32) (x1 x2 : Vec Ideal S1x7168 .f32) : k5_pay8 (F := Ideal) x0 x1 x2 = k5_pay6 x0 x1 x2 := by
  unfold k5_pay8
  rw [View.ld_unit_zero (by decide), View.ld_unit_zero (by decide), View.ld_unit_zero (by decide)]

theorem k5_ld9 (x0 : Vec Ideal S64x7168 .f32) (x1 x2 : Vec Ideal S1x7168 .f32) : k5_pay9 (F := Ideal) x0 x1 x2 = k5_pay7 x0 x1 x2 := by
  unfold k5_pay9
  rw [View.ld_unit_zero (by decide), View.ld_unit_zero (by decide), View.ld_unit_zero (by decide)]

/-- Row `r` of the region's input, layer-normed. -/
def ln5 (c : Dev nD) (r : Fin 256) : Fin 7168 → EReal :=
  lnRow (fun j => (V c main_v26 : FVec Ideal S256x7168 .f32) (ix2 r j)) (fun j => (V c main_v27 : FVec Ideal S1x7168 .f32) (ix2 0 j))
    (fun j => (V c main_v28 : FVec Ideal S1x7168 .f32) (ix2 0 j))

set_option maxHeartbeats 2000000 in
theorem codes5 (c : Dev nD) : (dat5 V c).arrAt 3 cfg5.N
    = (fun i => qcode (ln5 V c (i 0)) (i 1) : FVec Ideal S256x7168 .fp8e4m3) := by
  refine (dat5 V c).arrAt_eq_of_covers 3 _ (by decide +kernel) fun t _ y => ?_
  blk_simp
  rw [after5_3]; frame_out
  rw [k5_ld8, k5_ld9]
  idx_vars y
  refine (k5_codes _ _ _ _ _).trans ?_
  unfold ln5
  refine qcode_congr (lnRow_congr (fun j => ?_) (fun j => ?_) (fun j => ?_)) (Fin.ext ?_)
  · blk_ext [iblk5, idx5 t]
  · blk_ext [iblk5, idx5 t]
  · blk_ext [iblk5, idx5 t]
  · blk_simp [idx5 t]

set_option maxHeartbeats 2000000 in
theorem scale5 (c : Dev nD) : (dat5 V c).arrAt 4 cfg5.N
    = (fun i => qscale (ln5 V c (i 0)) : FVec Ideal S256x1 .f32) := by
  refine (dat5 V c).arrAt_eq_of_covers 4 _ (by decide +kernel) fun t _ y => ?_
  blk_simp
  rw [after5_4]; frame_out
  rw [k5_ld8, k5_ld9]
  idx_vars y
  obtain rfl : y1 = 0 := Subsingleton.elim _ _
  refine (k5_scale _ _ _ _).trans ?_
  unfold ln5
  refine qscale_congr (lnRow_congr (fun j => ?_) (fun j => ?_) (fun j => ?_))
  · blk_ext [iblk5, idx5 t]
  · blk_ext [iblk5, idx5 t]
  · blk_ext [iblk5, idx5 t]

end Cert.Enc.K
-- ==== Proof.KQ3.lean ====
/- Region 3: the row quantiser, 64 rows of 6400 at a point. -/
module

public import proofs.«01_k».proof.Proof.Gen.KernelIdeal.Frame.Region3
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

section Block

variable (v0 : FVec Ideal S64x6400 .f32) (r : Fin 64)

theorem k3_codes (l : Fin 6400) :
    (k3_pay4 (F := Ideal) v0 : FVec Ideal S64x6400 .fp8e4m3) (ix2 r l) = qcode (fun j => v0 (ix2 r j)) l := by
  pointwise [k3_pay1, k3_pay2, k3_pay4]
  exact congrArg (fun z => min (Ideal.ofBits .f32 0x43E00000#32) (max (Ideal.ofBits .f32 0xC3E00000#32) (v0 (ix2 r l) * z)))
    (kDown_invOf (amax fun j => v0 (ix2 r j)))

theorem k3_scale :
    (k3_pay3 (F := Ideal) v0 : FVec Ideal S64x1 .f32) (ix2 r 0) = qscale (fun j => v0 (ix2 r j)) := by
  pointwise [k3_pay1, k3_pay2, k3_pay3]
  exact kUp_scaleOf (amax fun j => v0 (ix2 r j))

end Block

variable (V : (c : Dev nD) → (b : Ref sig .tc) → Buf (Elt Ideal) ((c : Thread nD τ).loc b))

/-- The array the region reads. -/
def in3 (c : Dev nD) (r : Fin 256) (j : Fin 6400) : EReal := (V c main_v22 : FVec Ideal S256x6400 .f32) (ix2 r j)

theorem idx3 : ∀ t : Fin cfg3.N, win3_0.index t = ![t.val, 0] ∧ win3_1.index t = ![t.val, 0] ∧ win3_2.index t = ![t.val, 0] :=
  (by decide +kernel : ∀ t : Fin grid3.N, _)

theorem codes3 (c : Dev nD) : (dat3 V c).arrAt 1 cfg3.N
    = (fun i => qcode (in3 V c (i 0)) (i 1) : FVec Ideal S256x6400 .fp8e4m3) := by
  refine (dat3 V c).arrAt_eq_of_covers 1 _ (by decide +kernel) fun t _ y => ?_
  blk_simp
  rw [after3_1]; frame_out
  idx_vars y
  refine (k3_codes _ _ _).trans ?_
  unfold in3
  refine qcode_congr (funext fun j => ?_) (Fin.ext ?_)
  · blk_ext [iblk3, idx3 t]
  · blk_simp [idx3 t]

theorem scale3 (c : Dev nD) : (dat3 V c).arrAt 2 cfg3.N
    = (fun i => qscale (in3 V c (i 0)) : FVec Ideal S256x1 .f32) := by
  refine (dat3 V c).arrAt_eq_of_covers 2 _ (by decide +kernel) fun t _ y => ?_
  blk_simp
  rw [after3_2]; frame_out
  idx_vars y
  obtain rfl : y1 = 0 := Subsingleton.elim _ _
  refine (k3_scale _ _).trans ?_
  unfold in3
  refine qscale_congr (funext fun j => ?_)
  blk_ext [iblk3, idx3 t]

end Cert.Enc.K
-- ==== Proof.KQ7.lean ====
/- Region 7: the row quantiser, 64 rows of 18944 at a point. -/
module

public import proofs.«01_k».proof.Proof.Gen.KernelIdeal.Frame.Region7
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

section Block

variable (v0 : FVec Ideal S64x18944 .f32) (r : Fin 64)

theorem k7_codes (l : Fin 18944) :
    (k7_pay4 (F := Ideal) v0 : FVec Ideal S64x18944 .fp8e4m3) (ix2 r l) = qcode (fun j => v0 (ix2 r j)) l := by
  pointwise [k7_pay1, k7_pay2, k7_pay4]
  exact congrArg (fun z => min (Ideal.ofBits .f32 0x43E00000#32) (max (Ideal.ofBits .f32 0xC3E00000#32) (v0 (ix2 r l) * z)))
    (kDown_invOf (amax fun j => v0 (ix2 r j)))

theorem k7_scale :
    (k7_pay3 (F := Ideal) v0 : FVec Ideal S64x1 .f32) (ix2 r 0) = qscale (fun j => v0 (ix2 r j)) := by
  pointwise [k7_pay1, k7_pay2, k7_pay3]
  exact kUp_scaleOf (amax fun j => v0 (ix2 r j))

end Block

variable (V : (c : Dev nD) → (b : Ref sig .tc) → Buf (Elt Ideal) ((c : Thread nD τ).loc b))

/-- The array the region reads. -/
def in7 (c : Dev nD) (r : Fin 256) (j : Fin 18944) : EReal := (V c main_v32 : FVec Ideal S256x18944 .f32) (ix2 r j)

theorem idx7 : ∀ t : Fin cfg7.N, win7_0.index t = ![t.val, 0] ∧ win7_1.index t = ![t.val, 0] ∧ win7_2.index t = ![t.val, 0] :=
  (by decide +kernel : ∀ t : Fin grid7.N, _)

theorem codes7 (c : Dev nD) : (dat7 V c).arrAt 1 cfg7.N
    = (fun i => qcode (in7 V c (i 0)) (i 1) : FVec Ideal S256x18944 .fp8e4m3) := by
  refine (dat7 V c).arrAt_eq_of_covers 1 _ (by decide +kernel) fun t _ y => ?_
  blk_simp
  rw [after7_1]; frame_out
  idx_vars y
  refine (k7_codes _ _ _).trans ?_
  unfold in7
  refine qcode_congr (funext fun j => ?_) (Fin.ext ?_)
  · blk_ext [iblk7, idx7 t]
  · blk_simp [idx7 t]

theorem scale7 (c : Dev nD) : (dat7 V c).arrAt 2 cfg7.N
    = (fun i => qscale (in7 V c (i 0)) : FVec Ideal S256x1 .f32) := by
  refine (dat7 V c).arrAt_eq_of_covers 2 _ (by decide +kernel) fun t _ y => ?_
  blk_simp
  rw [after7_2]; frame_out
  idx_vars y
  obtain rfl : y1 = 0 := Subsingleton.elim _ _
  refine (k7_scale _ _).trans ?_
  unfold in7
  refine qscale_congr (funext fun j => ?_)
  blk_ext [iblk7, idx7 t]

end Cert.Enc.K
-- ==== Proof.KProj1.lean ====
/- Region 1: the query, key and value projection, 1280 columns at a point. -/
module

public import proofs.«01_k».proof.Proof.Gen.KernelIdeal.Frame.Region1
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx1 : ∀ t : Fin cfg1.N, win1_0.index t = ![0, 0] ∧ win1_1.index t = ![0, 0] ∧ win1_2.index t = ![0, t.val] ∧ win1_3.index t = ![0, t.val] ∧ win1_4.index t = ![0, t.val] ∧ win1_5.index t = ![0, t.val] :=
  (by decide +kernel : ∀ t : Fin grid1.N, _)

/-- What the region leaves in its result. -/
def G1 (c : Dev nD) : FVec Ideal S256x8960 .bf16 := fun i =>
  proj (fun k : Fin 7168 => (V c main_v3_0 : FVec Ideal S256x7168 .fp8e4m3) (ix2 (i 0) k))
      (fun k (j : Fin 8960) => (V c main_arg3 : FVec Ideal S7168x8960 .fp8e4m3) (ix2 k j))
      ((V c main_v3_1 : FVec Ideal S256x1 .f32) (ix2 (i 0) 0))
      (fun j => (V c main_v4 : FVec Ideal S1x8960 .f32) (ix2 0 j)) (fun j => (V c main_v5 : FVec Ideal S1x8960 .f32) (ix2 0 j)) (i 1)

theorem final1 (c : Dev nD) : (dat1 V c).arrAt 5 cfg1.N = G1 V c := by
  refine (dat1 V c).arrAt_eq_of_covers 5 _ (by decide +kernel) fun t _ y => ?_
  blk_simp
  rw [after1_5]; frame_out
  unfold G1
  pointwise [k1_pay1, proj, resid]
  blk_point [iblk1, idx1 t]

end Cert.Enc.K
-- ==== Proof.KAttn.lean ====
/- Region 2: attention, one batch element and one key/value head at a point. -/
module

public import proofs.«01_k».proof.Proof.Gen.KernelIdeal.Frame.Region2
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

theorem k2_row (v0 : FVec Ideal S1x640x160 .bf16) (v1 v2 : FVec Ideal S1x128x160 .bf16) (r : Fin 640) (l : Fin 160) :
    (k2_pay1 (F := Ideal) v0 v1 v2 : FVec Ideal S1x640x160 .f32) (ix3 0 r l)
      = attnRow (fun d => v0 (ix3 0 r d)) (fun s d => v1 (ix3 0 s d)) (fun s d => v2 (ix3 0 s d)) l := by
  pointwise [k2_pay1]
  rfl

variable (V : (c : Dev nD) → (b : Ref sig .tc) → Buf (Elt Ideal) ((c : Thread nD τ).loc b))

theorem idx2 : ∀ t : Fin cfg2.N, win2_0.index t = ![t.val, 0, 0] ∧ win2_1.index t = ![t.val, 0, 0] ∧ win2_2.index t = ![t.val, 0, 0]
    ∧ win2_3.index t = ![t.val, 0, 0] := (by decide +kernel : ∀ t : Fin grid2.N, _)

/-- What the region leaves in its result. -/
def G2 (c : Dev nD) : FVec Ideal S16x640x160 .f32 := fun i =>
  attnRow (fun d => (V c main_v10 : FVec Ideal S16x640x160 .bf16) (ix3 (i 0) (i 1) d))
    (fun s d => (V c main_v14 : FVec Ideal S16x128x160 .bf16) (ix3 (i 0) s d))
    (fun s d => (V c main_v18 : FVec Ideal S16x128x160 .bf16) (ix3 (i 0) s d)) (i 2)

set_option maxHeartbeats 2000000 in
theorem final2 (c : Dev nD) : (dat2 V c).arrAt 3 cfg2.N = G2 V c := by
  refine (dat2 V c).arrAt_eq_of_covers 3 _ (by decide +kernel) fun t _ y => ?_
  blk_simp
  rw [after2_3]; frame_out
  idx_vars y
  obtain rfl : y0 = 0 := Subsingleton.elim _ _
  refine (k2_row _ _ _ _ _).trans ?_
  unfold G2
  refine attnRow_congr (fun d => ?_) (fun s d => ?_) (fun s d => ?_) (Fin.ext ?_)
  · blk_ext [iblk2, idx2 t]
  · blk_ext [iblk2, idx2 t]
  · blk_ext [iblk2, idx2 t]
  · blk_simp [idx2 t]

end Cert.Enc.K
-- ==== Proof.KProj4.lean ====
/- Region 4: attention's output projection and the residual, 1024 columns at a point. -/
module

public import proofs.«01_k».proof.Proof.Gen.KernelIdeal.Frame.Region4
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx4 : ∀ t : Fin cfg4.N, win4_0.index t = ![0, 0] ∧ win4_1.index t = ![0, 0] ∧ win4_2.index t = ![0, t.val] ∧ win4_3.index t = ![0, t.val] ∧ win4_4.index t = ![0, t.val] ∧ win4_5.index t = ![0, t.val] ∧ win4_6.index t = ![0, t.val] :=
  (by decide +kernel : ∀ t : Fin grid4.N, _)

/-- What the region leaves in its result. -/
def G4 (c : Dev nD) : FVec Ideal S256x7168 .f32 := fun i =>
  resid ((V c main_v0 : FVec Ideal S256x7168 .bf16) (ix2 (i 0) (i 1))) (proj (fun k : Fin 6400 => (V c main_v23_0 : FVec Ideal S256x6400 .fp8e4m3) (ix2 (i 0) k))
      (fun k (j : Fin 7168) => (V c main_arg6 : FVec Ideal S6400x7168 .fp8e4m3) (ix2 k j))
      ((V c main_v23_1 : FVec Ideal S256x1 .f32) (ix2 (i 0) 0))
      (fun j => (V c main_v24 : FVec Ideal S1x7168 .f32) (ix2 0 j)) (fun j => (V c main_v25 : FVec Ideal S1x7168 .f32) (ix2 0 j)) (i 1))

theorem final4 (c : Dev nD) : (dat4 V c).arrAt 6 cfg4.N = G4 V c := by
  refine (dat4 V c).arrAt_eq_of_covers 6 _ (by decide +kernel) fun t _ y => ?_
  blk_simp
  rw [after4_6]; frame_out
  unfold G4
  pointwise [k4_pay1, proj, resid]
  blk_point [iblk4, idx4 t]

end Cert.Enc.K
-- ==== Proof.KProj6.lean ====
/- Region 6: the first projection of the feed-forward block and GELU, 512 columns at a point. -/
module

public import proofs.«01_k».proof.Proof.Gen.KernelIdeal.Frame.Region6
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

theorem k6_row (v0 : FVec Ideal S256x7168 .fp8e4m3) (v1 : FVec Ideal S7168x512 .fp8e4m3) (v2 : FVec Ideal S256x1 .f32) (v3 v4 : FVec Ideal S1x512 .f32)
    (r : Fin 256) (l : Fin 512) :
    (k6_pay1 (F := Ideal) v0 v1 v2 v3 v4 : FVec Ideal S256x512 .f32) (ix2 r l)
      = gelu (proj (fun k => v0 (ix2 r k)) (fun k j => v1 (ix2 k j)) (v2 (ix2 r 0)) (fun j => v3 (ix2 0 j)) (fun j => v4 (ix2 0 j)) l) := by
  pointwise [k6_pay1]
  unfold gelu proj
  rw [Ideal.ofBits_one_f32]
  rfl

variable (V : (c : Dev nD) → (b : Ref sig .tc) → Buf (Elt Ideal) ((c : Thread nD τ).loc b))

theorem idx6 : ∀ t : Fin cfg6.N, win6_0.index t = ![0, 0] ∧ win6_1.index t = ![0, 0] ∧ win6_2.index t = ![0, t.val] ∧ win6_3.index t = ![0, t.val] ∧ win6_4.index t = ![0, t.val] ∧ win6_5.index t = ![0, t.val] :=
  (by decide +kernel : ∀ t : Fin grid6.N, _)

/-- What the region leaves in its result. -/
def G6 (c : Dev nD) : FVec Ideal S256x18944 .f32 := fun i =>
  gelu (proj (fun k : Fin 7168 => (V c main_v29_0 : FVec Ideal S256x7168 .fp8e4m3) (ix2 (i 0) k))
      (fun k (j : Fin 18944) => (V c main_arg11 : FVec Ideal S7168x18944 .fp8e4m3) (ix2 k j))
      ((V c main_v29_1 : FVec Ideal S256x1 .f32) (ix2 (i 0) 0))
      (fun j => (V c main_v30 : FVec Ideal S1x18944 .f32) (ix2 0 j)) (fun j => (V c main_v31 : FVec Ideal S1x18944 .f32) (ix2 0 j)) (i 1))

set_option maxHeartbeats 2000000 in
theorem final6 (c : Dev nD) : (dat6 V c).arrAt 5 cfg6.N = G6 V c := by
  refine (dat6 V c).arrAt_eq_of_covers 5 _ (by decide +kernel) fun t _ y => ?_
  blk_simp
  rw [after6_5]; frame_out
  unfold G6
  idx_vars y
  refine (k6_row _ _ _ _ _ _ _).trans ?_
  refine congrArg gelu (proj_congr (fun d => ?_) (fun d => ?_) ?_ ?_ ?_)
  · blk_ext [iblk6, idx6 t]
  · blk_ext [iblk6, idx6 t]
  · blk_ext [iblk6, idx6 t]
  · blk_ext [iblk6, idx6 t]
  · blk_ext [iblk6, idx6 t]

end Cert.Enc.K
-- ==== Proof.KProj8.lean ====
/- Region 8: the second projection of the feed-forward block and the residual, 512 columns at a point. -/
module

public import proofs.«01_k».proof.Proof.Gen.KernelIdeal.Frame.Region8
public import proofs.«01_k».proof.Proof.Sem
public import Idealize.ShloMosaic.Lib.Pointwise
public import Idealize.ShloMosaic.Lib.Pipeline.ValueKit

@[expose] public section

set_option maxRecDepth 16384

noncomputable section

namespace Cert.Enc.K

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx8 : ∀ t : Fin cfg8.N, win8_0.index t = ![0, 0] ∧ win8_1.index t = ![0, 0] ∧ win8_2.index t = ![0, t.val] ∧ win8_3.index t = ![0, t.val] ∧ win8_4.index t = ![0, t.val] ∧ win8_5.index t = ![0, t.val] ∧ win8_6.index t = ![0, t.val] :=
  (by decide +kernel : ∀ t : Fin grid8.N, _)

/-- What the region leaves in its result. -/
def G8 (c : Dev nD) : FVec Ideal S256x7168 .bf16 := fun i =>
  resid ((V c main_v26 : FVec Ideal S256x7168 .f32) (ix2 (i 0) (i 1))) (proj (fun k : Fin 18944 => (V c main_v33_0 : FVec Ideal S256x18944 .fp8e4m3) (ix2 (i 0) k))
      (fun k (j : Fin 7168) => (V c main_arg14 : FVec Ideal S18944x7168 .fp8e4m3) (ix2 k j))
      ((V c main_v33_1 : FVec Ideal S256x1 .f32) (ix2 (i 0) 0))
      (fun j => (V c main_v34 : FVec Ideal S1x7168 .f32) (ix2 0 j)) (fun j => (V c main_v35 : FVec Ideal S1x7168 .f32) (ix2 0 j)) (i 1))

theorem final8 (c : Dev nD) : (dat8 V c).arrAt 6 cfg8.N = G8 V c := by
  refine (dat8 V c).arrAt_eq_of_covers 6 _ (by decide +kernel) fun t _ y => ?_
  blk_simp
  rw [after8_6]; frame_out
  unfold G8
  pointwise [k8_pay1, proj, resid]
  blk_point [iblk8, idx8 t]

end Cert.Enc.K
-- ==== Proof.KHost.lean ====
/- The kernel's host operations: what each array holds, element by element. -/
module

public import proofs.«01_k».proof.Proof.Gen.KernelIdeal.Launch
public import proofs.«01_k».proof.Proof.Sem
public import Idealize.ShloMosaic.Lib.StableHlo.RunRead
public import Idealize.ShloMosaic.Lib.Pointwise

@[expose] public section

set_option maxRecDepth 16384

noncomputable section

namespace Cert.Enc.K

open Idealize.ShloMosaic Idealize.ShloMosaic.TcCoe Idealize.SL.Sem
open Cert.KernelIdeal Cert.KernelIdeal.Gen

variable (V : Valuation τ sig (Elt Ideal))

theorem h0_v0 (r : Fin 256) (j : Fin 7168) :
    (StableHlo.after hostOps0 V (Proc.devRef .tc main_v0) : FVec Ideal S256x7168 .bf16) (ix2 r j)
      = (V (Proc.devRef .tc main_arg0) : FVec Ideal S2x128x7168 .bf16) (ix3 ⟨r / 128, by omega⟩ ⟨r % 128, by omega⟩ j) := by
  after_reads_simp
  pointwise

theorem h0_v1 (j : Fin 7168) :
    (StableHlo.after hostOps0 V (Proc.devRef .tc main_v1) : FVec Ideal S1x7168 .f32) (ix2 0 j)
      = (V (Proc.devRef .tc main_arg1) : FVec Ideal S7168 .f32) (ix1 j) := by
  after_reads_simp
  pointwise

theorem h0_v2 (j : Fin 7168) :
    (StableHlo.after hostOps0 V (Proc.devRef .tc main_v2) : FVec Ideal S1x7168 .f32) (ix2 0 j)
      = (V (Proc.devRef .tc main_arg2) : FVec Ideal S7168 .f32) (ix1 j) := by
  after_reads_simp
  pointwise

theorem h1_v4 (j : Fin 8960) :
    (StableHlo.after hostOps1 V (Proc.devRef .tc main_v4) : FVec Ideal S1x8960 .f32) (ix2 0 j)
      = (V (Proc.devRef .tc main_arg4) : FVec Ideal S8960 .f32) (ix1 j) := by
  after_reads_simp
  pointwise

theorem h1_v5 (j : Fin 8960) :
    (StableHlo.after hostOps1 V (Proc.devRef .tc main_v5) : FVec Ideal S1x8960 .f32) (ix2 0 j)
      = (V (Proc.devRef .tc main_arg5) : FVec Ideal S8960 .f32) (ix1 j) := by
  after_reads_simp
  pointwise

theorem h4_v24 (j : Fin 7168) :
    (StableHlo.after hostOps4 V (Proc.devRef .tc main_v24) : FVec Ideal S1x7168 .f32) (ix2 0 j)
      = (V (Proc.devRef .tc main_arg7) : FVec Ideal S7168 .f32) (ix1 j) := by
  after_reads_simp
  pointwise

theorem h4_v25 (j : Fin 7168) :
    (StableHlo.after hostOps4 V (Proc.devRef .tc main_v25) : FVec Ideal S1x7168 .f32) (ix2 0 j)
      = (V (Proc.devRef .tc main_arg8) : FVec Ideal S7168 .f32) (ix1 j) := by
  after_reads_simp
  pointwise

theorem h5_v27 (j : Fin 7168) :
    (StableHlo.after hostOps5 V (Proc.devRef .tc main_v27) : FVec Ideal S1x7168 .f32) (ix2 0 j)
      = (V (Proc.devRef .tc main_arg9) : FVec Ideal S7168 .f32) (ix1 j) := by
  after_reads_simp
  pointwise

theorem h5_v28 (j : Fin 7168) :
    (StableHlo.after hostOps5 V (Proc.devRef .tc main_v28) : FVec Ideal S1x7168 .f32) (ix2 0 j)
      = (V (Proc.devRef .tc main_arg10) : FVec Ideal S7168 .f32) (ix1 j) := by
  after_reads_simp
  pointwise

theorem h6_v30 (j : Fin 18944) :
    (StableHlo.after hostOps6 V (Proc.devRef .tc main_v30) : FVec Ideal S1x18944 .f32) (ix2 0 j)
      = (V (Proc.devRef .tc main_arg12) : FVec Ideal S18944 .f32) (ix1 j) := by
  after_reads_simp
  pointwise

theorem h6_v31 (j : Fin 18944) :
    (StableHlo.after hostOps6 V (Proc.devRef .tc main_v31) : FVec Ideal S1x18944 .f32) (ix2 0 j)
      = (V (Proc.devRef .tc main_arg13) : FVec Ideal S18944 .f32) (ix1 j) := by
  after_reads_simp
  pointwise

theorem h8_v34 (j : Fin 7168) :
    (StableHlo.after hostOps8 V (Proc.devRef .tc main_v34) : FVec Ideal S1x7168 .f32) (ix2 0 j)
      = (V (Proc.devRef .tc main_arg15) : FVec Ideal S7168 .f32) (ix1 j) := by
  after_reads_simp
  pointwise

theorem h8_v35 (j : Fin 7168) :
    (StableHlo.after hostOps8 V (Proc.devRef .tc main_v35) : FVec Ideal S1x7168 .f32) (ix2 0 j)
      = (V (Proc.devRef .tc main_arg16) : FVec Ideal S7168 .f32) (ix1 j) := by
  after_reads_simp
  pointwise

theorem h2_v10 (t : Fin 16) (r : Fin 640) (d : Fin 160) :
    (StableHlo.after hostOps2 V (Proc.devRef .tc main_v10) : FVec Ideal S16x640x160 .bf16) (ix3 t r d)
      = (V (Proc.devRef .tc main_v6) : FVec Ideal S256x8960 .bf16) (ix2 ⟨t / 8 * 128 + r % 128, by omega⟩ ⟨t % 8 * 800 + r / 128 * 160 + d, by omega⟩) := by
  after_reads_simp
  pointwise

theorem h2_v14 (t : Fin 16) (r : Fin 128) (d : Fin 160) :
    (StableHlo.after hostOps2 V (Proc.devRef .tc main_v14) : FVec Ideal S16x128x160 .bf16) (ix3 t r d)
      = (V (Proc.devRef .tc main_v6) : FVec Ideal S256x8960 .bf16) (ix2 ⟨t / 8 * 128 + r, by omega⟩ ⟨6400 + (t % 8 * 160 + d), by omega⟩) := by
  after_reads_simp
  pointwise

theorem h2_v18 (t : Fin 16) (r : Fin 128) (d : Fin 160) :
    (StableHlo.after hostOps2 V (Proc.devRef .tc main_v18) : FVec Ideal S16x128x160 .bf16) (ix3 t r d)
      = (V (Proc.devRef .tc main_v6) : FVec Ideal S256x8960 .bf16) (ix2 ⟨t / 8 * 128 + r, by omega⟩ ⟨7680 + (t % 8 * 160 + d), by omega⟩) := by
  after_reads_simp
  pointwise

theorem h3_v22 (r : Fin 256) (j : Fin 6400) :
    (StableHlo.after hostOps3 V (Proc.devRef .tc main_v22) : FVec Ideal S256x6400 .f32) (ix2 r j)
      = (V (Proc.devRef .tc main_v19) : FVec Ideal S16x640x160 .f32) (ix3 ⟨r / 128 * 8 + j / 800, by omega⟩ ⟨j / 160 % 5 * 128 + r % 128, by omega⟩ ⟨j % 160, by omega⟩) := by
  after_reads_simp
  pointwise

theorem h9_v37 (b : Fin 2) (s : Fin 128) (j : Fin 7168) :
    (StableHlo.after hostOps9 V (Proc.devRef .tc main_v37) : FVec Ideal S2x128x7168 .bf16) (ix3 b s j)
      = (V (Proc.devRef .tc main_v36) : FVec Ideal S256x7168 .bf16) (ix2 ⟨b * 128 + s, by omega⟩ j) := by
  after_reads_simp
  pointwise

theorem h9_v38 (b : Fin 2) (s : Fin 128) (j : Fin 7168) :
    (StableHlo.after hostOps9 V (Proc.devRef .tc main_v38) : FVec Ideal S2x128x7168 .fp8e4m3) (ix3 b s j)
      = (V (Proc.devRef .tc main_v3_0) : FVec Ideal S256x7168 .fp8e4m3) (ix2 ⟨b * 128 + s, by omega⟩ j) := by
  after_reads_simp
  pointwise

theorem h9_v39 (b : Fin 2) (s : Fin 128) :
    (StableHlo.after hostOps9 V (Proc.devRef .tc main_v39) : FVec Ideal S2x128x1 .f32) (ix3 b s 0)
      = (V (Proc.devRef .tc main_v3_1) : FVec Ideal S256x1 .f32) (ix2 ⟨b * 128 + s, by omega⟩ 0) := by
  after_reads_simp
  pointwise

theorem h9_v40 (b : Fin 2) (s : Fin 128) (j : Fin 6400) :
    (StableHlo.after hostOps9 V (Proc.devRef .tc main_v40) : FVec Ideal S2x128x6400 .fp8e4m3) (ix3 b s j)
      = (V (Proc.devRef .tc main_v23_0) : FVec Ideal S256x6400 .fp8e4m3) (ix2 ⟨b * 128 + s, by omega⟩ j) := by
  after_reads_simp
  pointwise

theorem h9_v41 (b : Fin 2) (s : Fin 128) :
    (StableHlo.after hostOps9 V (Proc.devRef .tc main_v41) : FVec Ideal S2x128x1 .f32) (ix3 b s 0)
      = (V (Proc.devRef .tc main_v23_1) : FVec Ideal S256x1 .f32) (ix2 ⟨b * 128 + s, by omega⟩ 0) := by
  after_reads_simp
  pointwise

theorem h9_v42 (b : Fin 2) (s : Fin 128) (j : Fin 7168) :
    (StableHlo.after hostOps9 V (Proc.devRef .tc main_v42) : FVec Ideal S2x128x7168 .fp8e4m3) (ix3 b s j)
      = (V (Proc.devRef .tc main_v29_0) : FVec Ideal S256x7168 .fp8e4m3) (ix2 ⟨b * 128 + s, by omega⟩ j) := by
  after_reads_simp
  pointwise

theorem h9_v43 (b : Fin 2) (s : Fin 128) :
    (StableHlo.after hostOps9 V (Proc.devRef .tc main_v43) : FVec Ideal S2x128x1 .f32) (ix3 b s 0)
      = (V (Proc.devRef .tc main_v29_1) : FVec Ideal S256x1 .f32) (ix2 ⟨b * 128 + s, by omega⟩ 0) := by
  after_reads_simp
  pointwise

theorem h9_v44 (b : Fin 2) (s : Fin 128) (j : Fin 18944) :
    (StableHlo.after hostOps9 V (Proc.devRef .tc main_v44) : FVec Ideal S2x128x18944 .fp8e4m3) (ix3 b s j)
      = (V (Proc.devRef .tc main_v33_0) : FVec Ideal S256x18944 .fp8e4m3) (ix2 ⟨b * 128 + s, by omega⟩ j) := by
  after_reads_simp
  pointwise

theorem h9_v45 (b : Fin 2) (s : Fin 128) :
    (StableHlo.after hostOps9 V (Proc.devRef .tc main_v45) : FVec Ideal S2x128x1 .f32) (ix3 b s 0)
      = (V (Proc.devRef .tc main_v33_1) : FVec Ideal S256x1 .f32) (ix2 ⟨b * 128 + s, by omega⟩ 0) := by
  after_reads_simp
  pointwise

end Cert.Enc.K
-- ==== Proof.RefQuant.lean ====
/- The reference's scale: the least of the listed powers of two above the greatest magnitude over 448, or one for a row
   of zeros. It is the scale of `Quant`. -/
module

public import proofs.«01_k».proof.Proof.Sem

@[expose] public section

set_option maxRecDepth 16384

noncomputable section

namespace Cert.Enc

open Idealize.ShloMosaic

/-- The `x`-th power of two in the reference's list, as its program computes it. -/
def listed (x : Fin 253) : EReal :=
  Ideal.pow (Ideal.ofBits .f32 0x40000000#32) (FloatOps.sitofp (F := Ideal) .f32 (IntOp.addi (4294967170#32) (BitVec.ofNat 32 x.val)))

theorem toInt_listed : ∀ x : Fin 253, (IntOp.addi (4294967170#32) (BitVec.ofNat 32 x.val)).toInt = (x.val : ℤ) - 126 := by
  decide +kernel

theorem two_eq : Ideal.ofBits .f32 0x40000000#32 = ((2 : ℝ) : EReal) := by
  have h := ofBits_exp 128 (by norm_num) (by norm_num)
  have e : BitVec.ofNat 32 128 <<< 23 = 0x40000000#32 := by decide
  rw [e] at h
  rw [h]
  norm_num [pow2]

theorem listed_eq (x : Fin 253) : listed x = pow2 ((x.val : ℤ) - 126) := by
  have h : (FloatOps.sitofp (F := Ideal) .f32 (IntOp.addi (4294967170#32) (BitVec.ofNat 32 x.val)) : EReal)
      = ((((x.val : ℤ) - 126 : ℤ) : ℝ) : EReal) := by
    rw [← toInt_listed x]
    rfl
  unfold listed
  rw [h, two_eq, Ideal.pow_coe_coe]
  exact congrArg _ (Real.rpow_intCast 2 _)

theorem top_eq : Ideal.ofBits .f32 0x7F800000#32 = ⊤ := by
  have h : (0x7F800000#32).extractLsb' 31 1 = 0#1 ∧ ((0x7F800000#32).extractLsb' 23 8).toNat = 255
    ∧ ((0x7F800000#32).extractLsb' 0 23).toNat = 0 := by decide +kernel
  obtain ⟨hs, he, hf⟩ := h
  have hb : (0#1 == 1#1) = false := rfl
  simp [Ideal.ofBits, Ideal.ieee, hs, he, hf, hb]

theorem last_eq : Ideal.ofBits .f32 0x7E800000#32 = pow2 126 := by
  have h := ofBits_exp 253 (by norm_num) (by norm_num)
  have e : BitVec.ofNat 32 253 <<< 23 = 0x7E800000#32 := by decide
  rw [e] at h
  exact h

/-- The reference's scale of a row of greatest magnitude `a`. -/
theorem refScale (a : EReal) :
    (if a = 0 then 1 else Finset.fold min (Ideal.ofBits .f32 0x7F800000#32) (fun x : Fin 253 =>
      if a * Ideal.ofBits .f32 0x3B124925#32 < listed x then listed x else Ideal.ofBits .f32 0x7E800000#32) Finset.univ)
      = scaleOf a := by
  unfold scaleOf
  refine if_congr Iff.rfl rfl ?_
  rw [top_eq, last_eq]
  simp only [listed_eq]
  exact least_eq _

/-- A value's code under a scale. -/
def code (x s : EReal) : EReal := min (Ideal.ofBits .f32 0x43E00000#32) (max (Ideal.ofBits .f32 0xC3E00000#32) (x * Ideal.div 1 s))

theorem code_scaleOf {n : ℕ} (v : Fin n → EReal) (j : Fin n) : code (v j) (scaleOf (amax v)) = qcode v j := by
  unfold code qcode
  rw [div_scaleOf]

/-- One element of a projection, from its sum. -/
def proj1 (acc ts s b : EReal) : EReal := acc * ts * s + b

/-- The sum of products. -/
def dotp {K : ℕ} (u v : Fin K → EReal) : EReal := ∑ x, u x * v x

theorem proj1_dotp {K N : ℕ} (c : Fin K → EReal) (w : Fin K → Fin N → EReal) (ts : EReal) (s b : Fin N → EReal) (j : Fin N) :
    proj1 (dotp c fun x => w x j) ts (s j) (b j) = proj c w ts s b j := rfl

/-- The softmax of a row of scores. -/
def soft (z : Fin 128 → EReal) (t : Fin 128) : EReal :=
  Ideal.div (Ideal.exp (z t - Finset.fold max (Ideal.ofBits .f32 0xFF800000#32) z Finset.univ))
    (∑ t, Ideal.exp (z t - Finset.fold max (Ideal.ofBits .f32 0xFF800000#32) z Finset.univ))

theorem max_fold (b : EReal) (z : Fin 128 → EReal) : max b (Finset.fold max b z Finset.univ) = Finset.fold max b z Finset.univ :=
  max_eq_right ((Finset.le_fold_max b).2 (Or.inl le_rfl))

theorem attnRow_soft (q : Fin 160 → EReal) (k v : Fin 128 → Fin 160 → EReal) (d : Fin 160) :
    attnRow q k v d = dotp (fun t => v t d) (fun t => soft (score q k) t) := by
  unfold attnRow dotp
  exact Finset.sum_congr rfl fun t _ => mul_comm _ _

end Cert.Enc
-- ==== Proof.Layer.lean ====
/- The encoder layer on its arguments' elements: each row normalised, quantised, projected, attended and fed forward. -/
module

public import proofs.«01_k».proof.Proof.RefQuant

@[expose] public section

noncomputable section

namespace Cert.Enc

open Idealize.ShloMosaic

theorem congr3 {α β γ δ : Type} (f : α → β → γ → δ) {a a' : α} {b b' : β} {c c' : γ} (ha : a = a') (hb : b = b') (hc : c = c') :
    f a b c = f a' b' c' := by
  rw [ha, hb, hc]

/-- The seventeen arguments, element by element. -/
structure Args where
  x : Fin 2 → Fin 128 → Fin 7168 → EReal
  g1 : Fin 7168 → EReal
  b1 : Fin 7168 → EReal
  wq : Fin 7168 → Fin 8960 → EReal
  sq : Fin 8960 → EReal
  bq : Fin 8960 → EReal
  wo : Fin 6400 → Fin 7168 → EReal
  so : Fin 7168 → EReal
  bo : Fin 7168 → EReal
  g2 : Fin 7168 → EReal
  b2 : Fin 7168 → EReal
  wi : Fin 7168 → Fin 18944 → EReal
  si : Fin 18944 → EReal
  bi : Fin 18944 → EReal
  wf : Fin 18944 → Fin 7168 → EReal
  sf : Fin 7168 → EReal
  bf : Fin 7168 → EReal

namespace Args

variable (A : Args) (b : Fin 2) (s : Fin 128)

/-- The input's row, normalised. -/
def ln1 : Fin 7168 → EReal := lnRow (A.x b s) A.g1 A.b1
/-- Its codes. -/
def code1 : Fin 7168 → EReal := fun j => qcode (A.ln1 b s) j
/-- Its scale. -/
def scale1 : EReal := qscale (A.ln1 b s)

/-- The query, key and value projection's row. -/
def qkv (j : Fin 8960) : EReal := proj (A.code1 b s) A.wq (A.scale1 b s) A.sq A.bq j

/-- The attention's row: column `j` belongs to query head `j / 160` and key and value head `j / 800`. -/
def att (j : Fin 6400) : EReal :=
  attnRow (fun d => A.qkv b s ⟨j / 160 * 160 + d, by omega⟩) (fun t d => A.qkv b t ⟨6400 + (j / 800 * 160 + d), by omega⟩)
    (fun t d => A.qkv b t ⟨7680 + (j / 800 * 160 + d), by omega⟩) ⟨j % 160, by omega⟩
/-- Its codes. -/
def code2 : Fin 6400 → EReal := fun j => qcode (A.att b s) j
/-- Its scale. -/
def scale2 : EReal := qscale (A.att b s)

/-- The row after the attention block. -/
def hid (j : Fin 7168) : EReal := resid (A.x b s j) (proj (A.code2 b s) A.wo (A.scale2 b s) A.so A.bo j)
/-- That row, normalised. -/
def ln2 : Fin 7168 → EReal := lnRow (A.hid b s) A.g2 A.b2
/-- Its codes. -/
def code3 : Fin 7168 → EReal := fun j => qcode (A.ln2 b s) j
/-- Its scale. -/
def scale3 : EReal := qscale (A.ln2 b s)

/-- The feed-forward block's hidden row. -/
def ffn (j : Fin 18944) : EReal := gelu (proj (A.code3 b s) A.wi (A.scale3 b s) A.si A.bi j)
/-- Its codes. -/
def code4 : Fin 18944 → EReal := fun j => qcode (A.ffn b s) j
/-- Its scale. -/
def scale4 : EReal := qscale (A.ffn b s)

/-- The layer's row. -/
def out (j : Fin 7168) : EReal := resid (A.hid b s j) (proj (A.code4 b s) A.wf (A.scale4 b s) A.sf A.bf j)

end Args

end Cert.Enc
-- ==== Proof.KChain.lean ====
/- The kernel's arrays, one after the other, are the layer's rows: row `r` is position `r % 128` of batch element `r / 128`. -/
module

public import proofs.«01_k».proof.Proof.Gen.KernelIdeal.Frame
public import proofs.«01_k».proof.Proof.KLn0
public import proofs.«01_k».proof.Proof.KLn5
public import proofs.«01_k».proof.Proof.KQ3
public import proofs.«01_k».proof.Proof.KQ7
public import proofs.«01_k».proof.Proof.KProj1
public import proofs.«01_k».proof.Proof.KAttn
public import proofs.«01_k».proof.Proof.KProj4
public import proofs.«01_k».proof.Proof.KProj6
public import proofs.«01_k».proof.Proof.KProj8
public import proofs.«01_k».proof.Proof.KHost
public import proofs.«01_k».proof.Proof.Layer

@[expose] public section

set_option maxRecDepth 16384

noncomputable section

namespace Cert.Enc.K

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The program's arguments, element by element. -/
def args : Args where
  x := fun i j k => (m ((c : Thread nD τ).loc main_arg0) : FVec Ideal S2x128x7168 .bf16) (ix3 i j k)
  g1 := fun i => (m ((c : Thread nD τ).loc main_arg1) : FVec Ideal S7168 .f32) (ix1 i)
  b1 := fun i => (m ((c : Thread nD τ).loc main_arg2) : FVec Ideal S7168 .f32) (ix1 i)
  wq := fun i j => (m ((c : Thread nD τ).loc main_arg3) : FVec Ideal S7168x8960 .fp8e4m3) (ix2 i j)
  sq := fun i => (m ((c : Thread nD τ).loc main_arg4) : FVec Ideal S8960 .f32) (ix1 i)
  bq := fun i => (m ((c : Thread nD τ).loc main_arg5) : FVec Ideal S8960 .f32) (ix1 i)
  wo := fun i j => (m ((c : Thread nD τ).loc main_arg6) : FVec Ideal S6400x7168 .fp8e4m3) (ix2 i j)
  so := fun i => (m ((c : Thread nD τ).loc main_arg7) : FVec Ideal S7168 .f32) (ix1 i)
  bo := fun i => (m ((c : Thread nD τ).loc main_arg8) : FVec Ideal S7168 .f32) (ix1 i)
  g2 := fun i => (m ((c : Thread nD τ).loc main_arg9) : FVec Ideal S7168 .f32) (ix1 i)
  b2 := fun i => (m ((c : Thread nD τ).loc main_arg10) : FVec Ideal S7168 .f32) (ix1 i)
  wi := fun i j => (m ((c : Thread nD τ).loc main_arg11) : FVec Ideal S7168x18944 .fp8e4m3) (ix2 i j)
  si := fun i => (m ((c : Thread nD τ).loc main_arg12) : FVec Ideal S18944 .f32) (ix1 i)
  bi := fun i => (m ((c : Thread nD τ).loc main_arg13) : FVec Ideal S18944 .f32) (ix1 i)
  wf := fun i j => (m ((c : Thread nD τ).loc main_arg14) : FVec Ideal S18944x7168 .fp8e4m3) (ix2 i j)
  sf := fun i => (m ((c : Thread nD τ).loc main_arg15) : FVec Ideal S7168 .f32) (ix1 i)
  bf := fun i => (m ((c : Thread nD τ).loc main_arg16) : FVec Ideal S7168 .f32) (ix1 i)

theorem carry_v3_0_3 : (W3 m ρ c (Proc.devRef .tc main_v3_0) : FVec Ideal S256x7168 .fp8e4m3) = (W2 m ρ c (Proc.devRef .tc main_v3_0) : FVec Ideal S256x7168 .fp8e4m3) :=
  (W3_of m ρ c main_v3_0 (by decide))

theorem carry_v3_0_17 : (W17 m ρ c (Proc.devRef .tc main_v3_0) : FVec Ideal S256x7168 .fp8e4m3) = (W2 m ρ c (Proc.devRef .tc main_v3_0) : FVec Ideal S256x7168 .fp8e4m3) :=
  (W17_of m ρ c main_v3_0 (by decide)).trans ((W16_of m ρ c main_v3_0 (by decide)).trans ((W15_of m ρ c main_v3_0 (by decide)).trans ((W14_of m ρ c main_v3_0 (by decide)).trans ((W13_of m ρ c main_v3_0 (by decide)).trans ((W12_of m ρ c main_v3_0 (by decide)).trans ((W11_of m ρ c main_v3_0 (by decide)).trans ((W10_of m ρ c main_v3_0 (by decide)).trans ((W9_of m ρ c main_v3_0 (by decide)).trans ((W8_of m ρ c main_v3_0 (by decide)).trans ((W7_of m ρ c main_v3_0 (by decide)).trans ((W6_of m ρ c main_v3_0 (by decide)).trans ((W5_of m ρ c main_v3_0 (by decide)).trans ((W4_of m ρ c main_v3_0 (by decide)).trans (W3_of m ρ c main_v3_0 (by decide)))))))))))))))

theorem carry_v3_1_3 : (W3 m ρ c (Proc.devRef .tc main_v3_1) : FVec Ideal S256x1 .f32) = (W2 m ρ c (Proc.devRef .tc main_v3_1) : FVec Ideal S256x1 .f32) :=
  (W3_of m ρ c main_v3_1 (by decide))

theorem carry_v3_1_17 : (W17 m ρ c (Proc.devRef .tc main_v3_1) : FVec Ideal S256x1 .f32) = (W2 m ρ c (Proc.devRef .tc main_v3_1) : FVec Ideal S256x1 .f32) :=
  (W17_of m ρ c main_v3_1 (by decide)).trans ((W16_of m ρ c main_v3_1 (by decide)).trans ((W15_of m ρ c main_v3_1 (by decide)).trans ((W14_of m ρ c main_v3_1 (by decide)).trans ((W13_of m ρ c main_v3_1 (by decide)).trans ((W12_of m ρ c main_v3_1 (by decide)).trans ((W11_of m ρ c main_v3_1 (by decide)).trans ((W10_of m ρ c main_v3_1 (by decide)).trans ((W9_of m ρ c main_v3_1 (by decide)).trans ((W8_of m ρ c main_v3_1 (by decide)).trans ((W7_of m ρ c main_v3_1 (by decide)).trans ((W6_of m ρ c main_v3_1 (by decide)).trans ((W5_of m ρ c main_v3_1 (by decide)).trans ((W4_of m ρ c main_v3_1 (by decide)).trans (W3_of m ρ c main_v3_1 (by decide)))))))))))))))

theorem carry_v0_9 : (W9 m ρ c (Proc.devRef .tc main_v0) : FVec Ideal S256x7168 .bf16) = (W1 m ρ c (Proc.devRef .tc main_v0) : FVec Ideal S256x7168 .bf16) :=
  (W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))

theorem carry_v23_0_9 : (W9 m ρ c (Proc.devRef .tc main_v23_0) : FVec Ideal S256x6400 .fp8e4m3) = (W8 m ρ c (Proc.devRef .tc main_v23_0) : FVec Ideal S256x6400 .fp8e4m3) :=
  (W9_of m ρ c main_v23_0 (by decide))

theorem carry_v23_0_17 : (W17 m ρ c (Proc.devRef .tc main_v23_0) : FVec Ideal S256x6400 .fp8e4m3) = (W8 m ρ c (Proc.devRef .tc main_v23_0) : FVec Ideal S256x6400 .fp8e4m3) :=
  (W17_of m ρ c main_v23_0 (by decide)).trans ((W16_of m ρ c main_v23_0 (by decide)).trans ((W15_of m ρ c main_v23_0 (by decide)).trans ((W14_of m ρ c main_v23_0 (by decide)).trans ((W13_of m ρ c main_v23_0 (by decide)).trans ((W12_of m ρ c main_v23_0 (by decide)).trans ((W11_of m ρ c main_v23_0 (by decide)).trans ((W10_of m ρ c main_v23_0 (by decide)).trans (W9_of m ρ c main_v23_0 (by decide)))))))))

theorem carry_v23_1_9 : (W9 m ρ c (Proc.devRef .tc main_v23_1) : FVec Ideal S256x1 .f32) = (W8 m ρ c (Proc.devRef .tc main_v23_1) : FVec Ideal S256x1 .f32) :=
  (W9_of m ρ c main_v23_1 (by decide))

theorem carry_v23_1_17 : (W17 m ρ c (Proc.devRef .tc main_v23_1) : FVec Ideal S256x1 .f32) = (W8 m ρ c (Proc.devRef .tc main_v23_1) : FVec Ideal S256x1 .f32) :=
  (W17_of m ρ c main_v23_1 (by decide)).trans ((W16_of m ρ c main_v23_1 (by decide)).trans ((W15_of m ρ c main_v23_1 (by decide)).trans ((W14_of m ρ c main_v23_1 (by decide)).trans ((W13_of m ρ c main_v23_1 (by decide)).trans ((W12_of m ρ c main_v23_1 (by decide)).trans ((W11_of m ρ c main_v23_1 (by decide)).trans ((W10_of m ρ c main_v23_1 (by decide)).trans (W9_of m ρ c main_v23_1 (by decide)))))))))

theorem carry_v26_11 : (W11 m ρ c (Proc.devRef .tc main_v26) : FVec Ideal S256x7168 .f32) = (W10 m ρ c (Proc.devRef .tc main_v26) : FVec Ideal S256x7168 .f32) :=
  (W11_of m ρ c main_v26 (by decide))

theorem carry_v26_16 : (W16 m ρ c (Proc.devRef .tc main_v26) : FVec Ideal S256x7168 .f32) = (W10 m ρ c (Proc.devRef .tc main_v26) : FVec Ideal S256x7168 .f32) :=
  (W16_of m ρ c main_v26 (by decide)).trans ((W15_of m ρ c main_v26 (by decide)).trans ((W14_of m ρ c main_v26 (by decide)).trans ((W13_of m ρ c main_v26 (by decide)).trans ((W12_of m ρ c main_v26 (by decide)).trans (W11_of m ρ c main_v26 (by decide))))))

theorem carry_v29_0_13 : (W13 m ρ c (Proc.devRef .tc main_v29_0) : FVec Ideal S256x7168 .fp8e4m3) = (W12 m ρ c (Proc.devRef .tc main_v29_0) : FVec Ideal S256x7168 .fp8e4m3) :=
  (W13_of m ρ c main_v29_0 (by decide))

theorem carry_v29_0_17 : (W17 m ρ c (Proc.devRef .tc main_v29_0) : FVec Ideal S256x7168 .fp8e4m3) = (W12 m ρ c (Proc.devRef .tc main_v29_0) : FVec Ideal S256x7168 .fp8e4m3) :=
  (W17_of m ρ c main_v29_0 (by decide)).trans ((W16_of m ρ c main_v29_0 (by decide)).trans ((W15_of m ρ c main_v29_0 (by decide)).trans ((W14_of m ρ c main_v29_0 (by decide)).trans (W13_of m ρ c main_v29_0 (by decide)))))

theorem carry_v29_1_13 : (W13 m ρ c (Proc.devRef .tc main_v29_1) : FVec Ideal S256x1 .f32) = (W12 m ρ c (Proc.devRef .tc main_v29_1) : FVec Ideal S256x1 .f32) :=
  (W13_of m ρ c main_v29_1 (by decide))

theorem carry_v29_1_17 : (W17 m ρ c (Proc.devRef .tc main_v29_1) : FVec Ideal S256x1 .f32) = (W12 m ρ c (Proc.devRef .tc main_v29_1) : FVec Ideal S256x1 .f32) :=
  (W17_of m ρ c main_v29_1 (by decide)).trans ((W16_of m ρ c main_v29_1 (by decide)).trans ((W15_of m ρ c main_v29_1 (by decide)).trans ((W14_of m ρ c main_v29_1 (by decide)).trans (W13_of m ρ c main_v29_1 (by decide)))))

theorem carry_v33_0_16 : (W16 m ρ c (Proc.devRef .tc main_v33_0) : FVec Ideal S256x18944 .fp8e4m3) = (W15 m ρ c (Proc.devRef .tc main_v33_0) : FVec Ideal S256x18944 .fp8e4m3) :=
  (W16_of m ρ c main_v33_0 (by decide))

theorem carry_v33_0_17 : (W17 m ρ c (Proc.devRef .tc main_v33_0) : FVec Ideal S256x18944 .fp8e4m3) = (W15 m ρ c (Proc.devRef .tc main_v33_0) : FVec Ideal S256x18944 .fp8e4m3) :=
  (W17_of m ρ c main_v33_0 (by decide)).trans (W16_of m ρ c main_v33_0 (by decide))

theorem carry_v33_1_16 : (W16 m ρ c (Proc.devRef .tc main_v33_1) : FVec Ideal S256x1 .f32) = (W15 m ρ c (Proc.devRef .tc main_v33_1) : FVec Ideal S256x1 .f32) :=
  (W16_of m ρ c main_v33_1 (by decide))

theorem carry_v33_1_17 : (W17 m ρ c (Proc.devRef .tc main_v33_1) : FVec Ideal S256x1 .f32) = (W15 m ρ c (Proc.devRef .tc main_v33_1) : FVec Ideal S256x1 .f32) :=
  (W17_of m ρ c main_v33_1 (by decide)).trans (W16_of m ρ c main_v33_1 (by decide))

theorem arg0_at0 : (W0 m ρ c (Proc.devRef .tc main_arg0) : FVec Ideal S2x128x7168 .bf16) = (m ((c : Thread nD τ).loc main_arg0) : FVec Ideal S2x128x7168 .bf16) :=
  W0_args m ρ c main_arg0 (by decide)

theorem arg1_at0 : (W0 m ρ c (Proc.devRef .tc main_arg1) : FVec Ideal S7168 .f32) = (m ((c : Thread nD τ).loc main_arg1) : FVec Ideal S7168 .f32) :=
  W0_args m ρ c main_arg1 (by decide)

theorem arg2_at0 : (W0 m ρ c (Proc.devRef .tc main_arg2) : FVec Ideal S7168 .f32) = (m ((c : Thread nD τ).loc main_arg2) : FVec Ideal S7168 .f32) :=
  W0_args m ρ c main_arg2 (by decide)

theorem arg3_at3 : (W3 m ρ c (Proc.devRef .tc main_arg3) : FVec Ideal S7168x8960 .fp8e4m3) = (m ((c : Thread nD τ).loc main_arg3) : FVec Ideal S7168x8960 .fp8e4m3) :=
  W3_args m ρ c main_arg3 (by decide)

theorem arg4_at2 : (W2 m ρ c (Proc.devRef .tc main_arg4) : FVec Ideal S8960 .f32) = (m ((c : Thread nD τ).loc main_arg4) : FVec Ideal S8960 .f32) :=
  W2_args m ρ c main_arg4 (by decide)

theorem arg5_at2 : (W2 m ρ c (Proc.devRef .tc main_arg5) : FVec Ideal S8960 .f32) = (m ((c : Thread nD τ).loc main_arg5) : FVec Ideal S8960 .f32) :=
  W2_args m ρ c main_arg5 (by decide)

theorem arg6_at9 : (W9 m ρ c (Proc.devRef .tc main_arg6) : FVec Ideal S6400x7168 .fp8e4m3) = (m ((c : Thread nD τ).loc main_arg6) : FVec Ideal S6400x7168 .fp8e4m3) :=
  W9_args m ρ c main_arg6 (by decide)

theorem arg7_at8 : (W8 m ρ c (Proc.devRef .tc main_arg7) : FVec Ideal S7168 .f32) = (m ((c : Thread nD τ).loc main_arg7) : FVec Ideal S7168 .f32) :=
  W8_args m ρ c main_arg7 (by decide)

theorem arg8_at8 : (W8 m ρ c (Proc.devRef .tc main_arg8) : FVec Ideal S7168 .f32) = (m ((c : Thread nD τ).loc main_arg8) : FVec Ideal S7168 .f32) :=
  W8_args m ρ c main_arg8 (by decide)

theorem arg9_at10 : (W10 m ρ c (Proc.devRef .tc main_arg9) : FVec Ideal S7168 .f32) = (m ((c : Thread nD τ).loc main_arg9) : FVec Ideal S7168 .f32) :=
  W10_args m ρ c main_arg9 (by decide)

theorem arg10_at10 : (W10 m ρ c (Proc.devRef .tc main_arg10) : FVec Ideal S7168 .f32) = (m ((c : Thread nD τ).loc main_arg10) : FVec Ideal S7168 .f32) :=
  W10_args m ρ c main_arg10 (by decide)

theorem arg11_at13 : (W13 m ρ c (Proc.devRef .tc main_arg11) : FVec Ideal S7168x18944 .fp8e4m3) = (m ((c : Thread nD τ).loc main_arg11) : FVec Ideal S7168x18944 .fp8e4m3) :=
  W13_args m ρ c main_arg11 (by decide)

theorem arg12_at12 : (W12 m ρ c (Proc.devRef .tc main_arg12) : FVec Ideal S18944 .f32) = (m ((c : Thread nD τ).loc main_arg12) : FVec Ideal S18944 .f32) :=
  W12_args m ρ c main_arg12 (by decide)

theorem arg13_at12 : (W12 m ρ c (Proc.devRef .tc main_arg13) : FVec Ideal S18944 .f32) = (m ((c : Thread nD τ).loc main_arg13) : FVec Ideal S18944 .f32) :=
  W12_args m ρ c main_arg13 (by decide)

theorem arg14_at16 : (W16 m ρ c (Proc.devRef .tc main_arg14) : FVec Ideal S18944x7168 .fp8e4m3) = (m ((c : Thread nD τ).loc main_arg14) : FVec Ideal S18944x7168 .fp8e4m3) :=
  W16_args m ρ c main_arg14 (by decide)

theorem arg15_at15 : (W15 m ρ c (Proc.devRef .tc main_arg15) : FVec Ideal S7168 .f32) = (m ((c : Thread nD τ).loc main_arg15) : FVec Ideal S7168 .f32) :=
  W15_args m ρ c main_arg15 (by decide)

theorem arg16_at15 : (W15 m ρ c (Proc.devRef .tc main_arg16) : FVec Ideal S7168 .f32) = (m ((c : Thread nD τ).loc main_arg16) : FVec Ideal S7168 .f32) :=
  W15_args m ρ c main_arg16 (by decide)

theorem k_v0 (r : Fin 256) (j : Fin 7168) :
    (W1 m ρ c (Proc.devRef .tc main_v0) : FVec Ideal S256x7168 .bf16) (ix2 r j)
      = (args m c).x ⟨r / 128, by omega⟩ ⟨r % 128, by omega⟩ j := by
  refine (h0_v0 (W0 m ρ c) r j).trans ?_
  rw [arg0_at0 m ρ c]; rfl

theorem k_v1 (j : Fin 7168) :
    (W1 m ρ c (Proc.devRef .tc main_v1) : FVec Ideal S1x7168 .f32) (ix2 0 j)
      = (args m c).g1 j := by
  refine (h0_v1 (W0 m ρ c) j).trans ?_
  rw [arg1_at0 m ρ c]; rfl

theorem k_v2 (j : Fin 7168) :
    (W1 m ρ c (Proc.devRef .tc main_v2) : FVec Ideal S1x7168 .f32) (ix2 0 j)
      = (args m c).b1 j := by
  refine (h0_v2 (W0 m ρ c) j).trans ?_
  rw [arg2_at0 m ρ c]; rfl

theorem k_v4 (j : Fin 8960) :
    (W3 m ρ c (Proc.devRef .tc main_v4) : FVec Ideal S1x8960 .f32) (ix2 0 j)
      = (args m c).sq j := by
  refine (h1_v4 (W2 m ρ c) j).trans ?_
  rw [arg4_at2 m ρ c]; rfl

theorem k_v5 (j : Fin 8960) :
    (W3 m ρ c (Proc.devRef .tc main_v5) : FVec Ideal S1x8960 .f32) (ix2 0 j)
      = (args m c).bq j := by
  refine (h1_v5 (W2 m ρ c) j).trans ?_
  rw [arg5_at2 m ρ c]; rfl

theorem k_v24 (j : Fin 7168) :
    (W9 m ρ c (Proc.devRef .tc main_v24) : FVec Ideal S1x7168 .f32) (ix2 0 j)
      = (args m c).so j := by
  refine (h4_v24 (W8 m ρ c) j).trans ?_
  rw [arg7_at8 m ρ c]; rfl

theorem k_v25 (j : Fin 7168) :
    (W9 m ρ c (Proc.devRef .tc main_v25) : FVec Ideal S1x7168 .f32) (ix2 0 j)
      = (args m c).bo j := by
  refine (h4_v25 (W8 m ρ c) j).trans ?_
  rw [arg8_at8 m ρ c]; rfl

theorem k_v27 (j : Fin 7168) :
    (W11 m ρ c (Proc.devRef .tc main_v27) : FVec Ideal S1x7168 .f32) (ix2 0 j)
      = (args m c).g2 j := by
  refine (h5_v27 (W10 m ρ c) j).trans ?_
  rw [arg9_at10 m ρ c]; rfl

theorem k_v28 (j : Fin 7168) :
    (W11 m ρ c (Proc.devRef .tc main_v28) : FVec Ideal S1x7168 .f32) (ix2 0 j)
      = (args m c).b2 j := by
  refine (h5_v28 (W10 m ρ c) j).trans ?_
  rw [arg10_at10 m ρ c]; rfl

theorem k_v30 (j : Fin 18944) :
    (W13 m ρ c (Proc.devRef .tc main_v30) : FVec Ideal S1x18944 .f32) (ix2 0 j)
      = (args m c).si j := by
  refine (h6_v30 (W12 m ρ c) j).trans ?_
  rw [arg12_at12 m ρ c]; rfl

theorem k_v31 (j : Fin 18944) :
    (W13 m ρ c (Proc.devRef .tc main_v31) : FVec Ideal S1x18944 .f32) (ix2 0 j)
      = (args m c).bi j := by
  refine (h6_v31 (W12 m ρ c) j).trans ?_
  rw [arg13_at12 m ρ c]; rfl

theorem k_v34 (j : Fin 7168) :
    (W16 m ρ c (Proc.devRef .tc main_v34) : FVec Ideal S1x7168 .f32) (ix2 0 j)
      = (args m c).sf j := by
  refine (h8_v34 (W15 m ρ c) j).trans ?_
  rw [arg15_at15 m ρ c]; rfl

theorem k_v35 (j : Fin 7168) :
    (W16 m ρ c (Proc.devRef .tc main_v35) : FVec Ideal S1x7168 .f32) (ix2 0 j)
      = (args m c).bf j := by
  refine (h8_v35 (W15 m ρ c) j).trans ?_
  rw [arg16_at15 m ρ c]; rfl

theorem k_row0 (r : Fin 256) :
    ln0 (V1 m ρ) c r
      = (args m c).ln1 ⟨r / 128, by omega⟩ ⟨r % 128, by omega⟩ := by
  exact lnRow_congr (fun j => k_v0 m ρ c r j) (fun j => k_v1 m ρ c j) (fun j => k_v2 m ρ c j)

theorem e_v3_0  :
    (W2 m ρ c (Proc.devRef .tc main_v3_0) : FVec Ideal S256x7168 .fp8e4m3)
      = (fun i => qcode (ln0 (V1 m ρ) c (i 0)) (i 1) : FVec Ideal S256x7168 .fp8e4m3) := by
  exact (W2_arr m ρ c 3).trans (codes0 (V1 m ρ) c)

theorem e_v3_1  :
    (W2 m ρ c (Proc.devRef .tc main_v3_1) : FVec Ideal S256x1 .f32)
      = (fun i => qscale (ln0 (V1 m ρ) c (i 0)) : FVec Ideal S256x1 .f32) := by
  exact (W2_arr m ρ c 4).trans (scale0 (V1 m ρ) c)

theorem k_v3_0 (r : Fin 256) (j : Fin 7168) :
    (W2 m ρ c (Proc.devRef .tc main_v3_0) : FVec Ideal S256x7168 .fp8e4m3) (ix2 r j)
      = (args m c).code1 ⟨r / 128, by omega⟩ ⟨r % 128, by omega⟩ j := by
  rw [e_v3_0]
  exact qcode_congr (k_row0 m ρ c r) rfl

theorem k_v3_1 (r : Fin 256) :
    (W2 m ρ c (Proc.devRef .tc main_v3_1) : FVec Ideal S256x1 .f32) (ix2 r 0)
      = (args m c).scale1 ⟨r / 128, by omega⟩ ⟨r % 128, by omega⟩ := by
  rw [e_v3_1]
  exact qscale_congr (k_row0 m ρ c r)

theorem e_v6  :
    (W4 m ρ c (Proc.devRef .tc main_v6) : FVec Ideal S256x8960 .bf16)
      = G1 (V3 m ρ) c := by
  exact (W4_arr m ρ c 5).trans (final1 (V3 m ρ) c)

theorem k_v6 (r : Fin 256) (j : Fin 8960) :
    (W4 m ρ c (Proc.devRef .tc main_v6) : FVec Ideal S256x8960 .bf16) (ix2 r j)
      = (args m c).qkv ⟨r / 128, by omega⟩ ⟨r % 128, by omega⟩ j := by
  rw [e_v6]; unfold G1 Args.qkv
  refine proj_congr (fun k => ?_) (fun k => ?_) ?_ ?_ ?_
  · rw [show V3 m ρ c main_v3_0 = W3 m ρ c (Proc.devRef .tc main_v3_0) from rfl, carry_v3_0_3]; exact k_v3_0 m ρ c r k
  · exact congrFun (arg3_at3 m ρ c) (ix2 k j)
  · rw [show V3 m ρ c main_v3_1 = W3 m ρ c (Proc.devRef .tc main_v3_1) from rfl, carry_v3_1_3]; exact k_v3_1 m ρ c r
  · exact k_v4 m ρ c j
  · exact k_v5 m ρ c j

theorem k_v10 (t : Fin 16) (r : Fin 640) (d : Fin 160) :
    (W5 m ρ c (Proc.devRef .tc main_v10) : FVec Ideal S16x640x160 .bf16) (ix3 t r d)
      = (args m c).qkv ⟨t / 8, by omega⟩ ⟨r % 128, by omega⟩ ⟨t % 8 * 800 + r / 128 * 160 + d, by omega⟩ := by
  refine (h2_v10 (W4 m ρ c) t r d).trans ((k_v6 m ρ c _ _).trans ?_)
  exact congr3 (args m c).qkv (Fin.ext (by simp only; omega)) (Fin.ext (by simp only; omega)) rfl

theorem k_v14 (t : Fin 16) (r : Fin 128) (d : Fin 160) :
    (W5 m ρ c (Proc.devRef .tc main_v14) : FVec Ideal S16x128x160 .bf16) (ix3 t r d)
      = (args m c).qkv ⟨t / 8, by omega⟩ r ⟨6400 + (t % 8 * 160 + d), by omega⟩ := by
  refine (h2_v14 (W4 m ρ c) t r d).trans ((k_v6 m ρ c _ _).trans ?_)
  exact congr3 (args m c).qkv (Fin.ext (by simp only; omega)) (Fin.ext (by simp only; omega)) rfl

theorem k_v18 (t : Fin 16) (r : Fin 128) (d : Fin 160) :
    (W5 m ρ c (Proc.devRef .tc main_v18) : FVec Ideal S16x128x160 .bf16) (ix3 t r d)
      = (args m c).qkv ⟨t / 8, by omega⟩ r ⟨7680 + (t % 8 * 160 + d), by omega⟩ := by
  refine (h2_v18 (W4 m ρ c) t r d).trans ((k_v6 m ρ c _ _).trans ?_)
  exact congr3 (args m c).qkv (Fin.ext (by simp only; omega)) (Fin.ext (by simp only; omega)) rfl

theorem e_v19  :
    (W6 m ρ c (Proc.devRef .tc main_v19) : FVec Ideal S16x640x160 .f32)
      = G2 (V5 m ρ) c := by
  exact (W6_arr m ρ c 3).trans (final2 (V5 m ρ) c)

theorem k_v22 (r : Fin 256) (j : Fin 6400) :
    (W7 m ρ c (Proc.devRef .tc main_v22) : FVec Ideal S256x6400 .f32) (ix2 r j)
      = (args m c).att ⟨r / 128, by omega⟩ ⟨r % 128, by omega⟩ j := by
  refine (h3_v22 (W6 m ρ c) r j).trans ?_
  rw [e_v19]; unfold G2 Args.att
  refine attnRow_congr (fun d => ?_) (fun t d => ?_) (fun t d => ?_) rfl
  · refine (k_v10 m ρ c _ _ d).trans ?_
    exact congr3 (args m c).qkv (Fin.ext (by simp only [ix3_0, ix3_1]; omega)) (Fin.ext (by simp only [ix3_0, ix3_1]; omega)) (Fin.ext (by simp only [ix3_0, ix3_1]; omega))
  · refine (k_v14 m ρ c _ t d).trans ?_
    exact congr3 (args m c).qkv (Fin.ext (by simp only [ix3_0, ix3_1]; omega)) rfl (Fin.ext (by simp only [ix3_0, ix3_1]; omega))
  · refine (k_v18 m ρ c _ t d).trans ?_
    exact congr3 (args m c).qkv (Fin.ext (by simp only [ix3_0, ix3_1]; omega)) rfl (Fin.ext (by simp only [ix3_0, ix3_1]; omega))

theorem k_row3 (r : Fin 256) :
    in3 (V7 m ρ) c r
      = (args m c).att ⟨r / 128, by omega⟩ ⟨r % 128, by omega⟩ := by
  exact funext fun j => k_v22 m ρ c r j

theorem e_v23_0  :
    (W8 m ρ c (Proc.devRef .tc main_v23_0) : FVec Ideal S256x6400 .fp8e4m3)
      = (fun i => qcode (in3 (V7 m ρ) c (i 0)) (i 1) : FVec Ideal S256x6400 .fp8e4m3) := by
  exact (W8_arr m ρ c 1).trans (codes3 (V7 m ρ) c)

theorem e_v23_1  :
    (W8 m ρ c (Proc.devRef .tc main_v23_1) : FVec Ideal S256x1 .f32)
      = (fun i => qscale (in3 (V7 m ρ) c (i 0)) : FVec Ideal S256x1 .f32) := by
  exact (W8_arr m ρ c 2).trans (scale3 (V7 m ρ) c)

theorem k_v23_0 (r : Fin 256) (j : Fin 6400) :
    (W8 m ρ c (Proc.devRef .tc main_v23_0) : FVec Ideal S256x6400 .fp8e4m3) (ix2 r j)
      = (args m c).code2 ⟨r / 128, by omega⟩ ⟨r % 128, by omega⟩ j := by
  rw [e_v23_0]
  exact qcode_congr (k_row3 m ρ c r) rfl

theorem k_v23_1 (r : Fin 256) :
    (W8 m ρ c (Proc.devRef .tc main_v23_1) : FVec Ideal S256x1 .f32) (ix2 r 0)
      = (args m c).scale2 ⟨r / 128, by omega⟩ ⟨r % 128, by omega⟩ := by
  rw [e_v23_1]
  exact qscale_congr (k_row3 m ρ c r)

theorem e_v26  :
    (W10 m ρ c (Proc.devRef .tc main_v26) : FVec Ideal S256x7168 .f32)
      = G4 (V9 m ρ) c := by
  exact (W10_arr m ρ c 6).trans (final4 (V9 m ρ) c)

theorem k_v26 (r : Fin 256) (j : Fin 7168) :
    (W10 m ρ c (Proc.devRef .tc main_v26) : FVec Ideal S256x7168 .f32) (ix2 r j)
      = (args m c).hid ⟨r / 128, by omega⟩ ⟨r % 128, by omega⟩ j := by
  rw [e_v26]; unfold G4 Args.hid
  refine congr (congrArg resid ?_) (proj_congr (fun k => ?_) (fun k => ?_) ?_ ?_ ?_)
  · rw [show V9 m ρ c main_v0 = W9 m ρ c (Proc.devRef .tc main_v0) from rfl, carry_v0_9]; exact k_v0 m ρ c r j
  · rw [show V9 m ρ c main_v23_0 = W9 m ρ c (Proc.devRef .tc main_v23_0) from rfl, carry_v23_0_9]; exact k_v23_0 m ρ c r k
  · exact congrFun (arg6_at9 m ρ c) (ix2 k j)
  · rw [show V9 m ρ c main_v23_1 = W9 m ρ c (Proc.devRef .tc main_v23_1) from rfl, carry_v23_1_9]; exact k_v23_1 m ρ c r
  · exact k_v24 m ρ c j
  · exact k_v25 m ρ c j

theorem k_row5 (r : Fin 256) :
    ln5 (V11 m ρ) c r
      = (args m c).ln2 ⟨r / 128, by omega⟩ ⟨r % 128, by omega⟩ := by
  refine lnRow_congr (fun j => ?_) (fun j => k_v27 m ρ c j) (fun j => k_v28 m ρ c j)
  rw [show V11 m ρ c main_v26 = W11 m ρ c (Proc.devRef .tc main_v26) from rfl, carry_v26_11]; exact k_v26 m ρ c r j

theorem e_v29_0  :
    (W12 m ρ c (Proc.devRef .tc main_v29_0) : FVec Ideal S256x7168 .fp8e4m3)
      = (fun i => qcode (ln5 (V11 m ρ) c (i 0)) (i 1) : FVec Ideal S256x7168 .fp8e4m3) := by
  exact (W12_arr m ρ c 3).trans (codes5 (V11 m ρ) c)

theorem e_v29_1  :
    (W12 m ρ c (Proc.devRef .tc main_v29_1) : FVec Ideal S256x1 .f32)
      = (fun i => qscale (ln5 (V11 m ρ) c (i 0)) : FVec Ideal S256x1 .f32) := by
  exact (W12_arr m ρ c 4).trans (scale5 (V11 m ρ) c)

theorem k_v29_0 (r : Fin 256) (j : Fin 7168) :
    (W12 m ρ c (Proc.devRef .tc main_v29_0) : FVec Ideal S256x7168 .fp8e4m3) (ix2 r j)
      = (args m c).code3 ⟨r / 128, by omega⟩ ⟨r % 128, by omega⟩ j := by
  rw [e_v29_0]
  exact qcode_congr (k_row5 m ρ c r) rfl

theorem k_v29_1 (r : Fin 256) :
    (W12 m ρ c (Proc.devRef .tc main_v29_1) : FVec Ideal S256x1 .f32) (ix2 r 0)
      = (args m c).scale3 ⟨r / 128, by omega⟩ ⟨r % 128, by omega⟩ := by
  rw [e_v29_1]
  exact qscale_congr (k_row5 m ρ c r)

theorem e_v32  :
    (W14 m ρ c (Proc.devRef .tc main_v32) : FVec Ideal S256x18944 .f32)
      = G6 (V13 m ρ) c := by
  exact (W14_arr m ρ c 5).trans (final6 (V13 m ρ) c)

theorem k_v32 (r : Fin 256) (j : Fin 18944) :
    (W14 m ρ c (Proc.devRef .tc main_v32) : FVec Ideal S256x18944 .f32) (ix2 r j)
      = (args m c).ffn ⟨r / 128, by omega⟩ ⟨r % 128, by omega⟩ j := by
  rw [e_v32]; unfold G6 Args.ffn
  refine congrArg gelu (proj_congr (fun k => ?_) (fun k => ?_) ?_ ?_ ?_)
  · rw [show V13 m ρ c main_v29_0 = W13 m ρ c (Proc.devRef .tc main_v29_0) from rfl, carry_v29_0_13]; exact k_v29_0 m ρ c r k
  · exact congrFun (arg11_at13 m ρ c) (ix2 k j)
  · rw [show V13 m ρ c main_v29_1 = W13 m ρ c (Proc.devRef .tc main_v29_1) from rfl, carry_v29_1_13]; exact k_v29_1 m ρ c r
  · exact k_v30 m ρ c j
  · exact k_v31 m ρ c j

theorem k_row7 (r : Fin 256) :
    in7 (V14 m ρ) c r
      = (args m c).ffn ⟨r / 128, by omega⟩ ⟨r % 128, by omega⟩ := by
  exact funext fun j => k_v32 m ρ c r j

theorem e_v33_0  :
    (W15 m ρ c (Proc.devRef .tc main_v33_0) : FVec Ideal S256x18944 .fp8e4m3)
      = (fun i => qcode (in7 (V14 m ρ) c (i 0)) (i 1) : FVec Ideal S256x18944 .fp8e4m3) := by
  exact (W15_arr m ρ c 1).trans (codes7 (V14 m ρ) c)

theorem e_v33_1  :
    (W15 m ρ c (Proc.devRef .tc main_v33_1) : FVec Ideal S256x1 .f32)
      = (fun i => qscale (in7 (V14 m ρ) c (i 0)) : FVec Ideal S256x1 .f32) := by
  exact (W15_arr m ρ c 2).trans (scale7 (V14 m ρ) c)

theorem k_v33_0 (r : Fin 256) (j : Fin 18944) :
    (W15 m ρ c (Proc.devRef .tc main_v33_0) : FVec Ideal S256x18944 .fp8e4m3) (ix2 r j)
      = (args m c).code4 ⟨r / 128, by omega⟩ ⟨r % 128, by omega⟩ j := by
  rw [e_v33_0]
  exact qcode_congr (k_row7 m ρ c r) rfl

theorem k_v33_1 (r : Fin 256) :
    (W15 m ρ c (Proc.devRef .tc main_v33_1) : FVec Ideal S256x1 .f32) (ix2 r 0)
      = (args m c).scale4 ⟨r / 128, by omega⟩ ⟨r % 128, by omega⟩ := by
  rw [e_v33_1]
  exact qscale_congr (k_row7 m ρ c r)

theorem e_v36  :
    (W17 m ρ c (Proc.devRef .tc main_v36) : FVec Ideal S256x7168 .bf16)
      = G8 (V16 m ρ) c := by
  exact (W17_arr m ρ c 6).trans (final8 (V16 m ρ) c)

theorem k_v36 (r : Fin 256) (j : Fin 7168) :
    (W17 m ρ c (Proc.devRef .tc main_v36) : FVec Ideal S256x7168 .bf16) (ix2 r j)
      = (args m c).out ⟨r / 128, by omega⟩ ⟨r % 128, by omega⟩ j := by
  rw [e_v36]; unfold G8 Args.out
  refine congr (congrArg resid ?_) (proj_congr (fun k => ?_) (fun k => ?_) ?_ ?_ ?_)
  · rw [show V16 m ρ c main_v26 = W16 m ρ c (Proc.devRef .tc main_v26) from rfl, carry_v26_16]; exact k_v26 m ρ c r j
  · rw [show V16 m ρ c main_v33_0 = W16 m ρ c (Proc.devRef .tc main_v33_0) from rfl, carry_v33_0_16]; exact k_v33_0 m ρ c r k
  · exact congrFun (arg14_at16 m ρ c) (ix2 k j)
  · rw [show V16 m ρ c main_v33_1 = W16 m ρ c (Proc.devRef .tc main_v33_1) from rfl, carry_v33_1_16]; exact k_v33_1 m ρ c r
  · exact k_v34 m ρ c j
  · exact k_v35 m ρ c j

theorem res_v37  :
    (W18 m ρ c (Proc.devRef .tc main_v37) : FVec Ideal S2x128x7168 .bf16)
      = (fun i => (args m c).out (i 0) (i 1) (i 2) : FVec Ideal S2x128x7168 .bf16) := by
  funext i
  idx_vars i
  refine (h9_v37 (W17 m ρ c) i0 i1 i2).trans ?_
  refine (k_v36 m ρ c _ _).trans ?_
  exact congr3 (args m c).out (Fin.ext (by simp only [ix3_0]; omega)) (Fin.ext (by simp only [ix3_1]; omega)) rfl

theorem res_v38  :
    (W18 m ρ c (Proc.devRef .tc main_v38) : FVec Ideal S2x128x7168 .fp8e4m3)
      = (fun i => (args m c).code1 (i 0) (i 1) (i 2) : FVec Ideal S2x128x7168 .fp8e4m3) := by
  funext i
  idx_vars i
  refine (h9_v38 (W17 m ρ c) i0 i1 i2).trans ?_
  rw [carry_v3_0_17]; refine (k_v3_0 m ρ c _ _).trans ?_
  exact congr3 (args m c).code1 (Fin.ext (by simp only [ix3_0]; omega)) (Fin.ext (by simp only [ix3_1]; omega)) rfl

theorem res_v39  :
    (W18 m ρ c (Proc.devRef .tc main_v39) : FVec Ideal S2x128x1 .f32)
      = (fun i => (args m c).scale1 (i 0) (i 1) : FVec Ideal S2x128x1 .f32) := by
  funext i
  idx_vars i
  obtain rfl : i2 = 0 := Subsingleton.elim _ _
  refine (h9_v39 (W17 m ρ c) i0 i1).trans ?_
  rw [carry_v3_1_17]; refine (k_v3_1 m ρ c _).trans ?_
  exact congr (congrArg (args m c).scale1 (Fin.ext (by simp only [ix3_0]; omega))) (Fin.ext (by simp only [ix3_1]; omega))

theorem res_v40  :
    (W18 m ρ c (Proc.devRef .tc main_v40) : FVec Ideal S2x128x6400 .fp8e4m3)
      = (fun i => (args m c).code2 (i 0) (i 1) (i 2) : FVec Ideal S2x128x6400 .fp8e4m3) := by
  funext i
  idx_vars i
  refine (h9_v40 (W17 m ρ c) i0 i1 i2).trans ?_
  rw [carry_v23_0_17]; refine (k_v23_0 m ρ c _ _).trans ?_
  exact congr3 (args m c).code2 (Fin.ext (by simp only [ix3_0]; omega)) (Fin.ext (by simp only [ix3_1]; omega)) rfl

theorem res_v41  :
    (W18 m ρ c (Proc.devRef .tc main_v41) : FVec Ideal S2x128x1 .f32)
      = (fun i => (args m c).scale2 (i 0) (i 1) : FVec Ideal S2x128x1 .f32) := by
  funext i
  idx_vars i
  obtain rfl : i2 = 0 := Subsingleton.elim _ _
  refine (h9_v41 (W17 m ρ c) i0 i1).trans ?_
  rw [carry_v23_1_17]; refine (k_v23_1 m ρ c _).trans ?_
  exact congr (congrArg (args m c).scale2 (Fin.ext (by simp only [ix3_0]; omega))) (Fin.ext (by simp only [ix3_1]; omega))

theorem res_v42  :
    (W18 m ρ c (Proc.devRef .tc main_v42) : FVec Ideal S2x128x7168 .fp8e4m3)
      = (fun i => (args m c).code3 (i 0) (i 1) (i 2) : FVec Ideal S2x128x7168 .fp8e4m3) := by
  funext i
  idx_vars i
  refine (h9_v42 (W17 m ρ c) i0 i1 i2).trans ?_
  rw [carry_v29_0_17]; refine (k_v29_0 m ρ c _ _).trans ?_
  exact congr3 (args m c).code3 (Fin.ext (by simp only [ix3_0]; omega)) (Fin.ext (by simp only [ix3_1]; omega)) rfl

theorem res_v43  :
    (W18 m ρ c (Proc.devRef .tc main_v43) : FVec Ideal S2x128x1 .f32)
      = (fun i => (args m c).scale3 (i 0) (i 1) : FVec Ideal S2x128x1 .f32) := by
  funext i
  idx_vars i
  obtain rfl : i2 = 0 := Subsingleton.elim _ _
  refine (h9_v43 (W17 m ρ c) i0 i1).trans ?_
  rw [carry_v29_1_17]; refine (k_v29_1 m ρ c _).trans ?_
  exact congr (congrArg (args m c).scale3 (Fin.ext (by simp only [ix3_0]; omega))) (Fin.ext (by simp only [ix3_1]; omega))

theorem res_v44  :
    (W18 m ρ c (Proc.devRef .tc main_v44) : FVec Ideal S2x128x18944 .fp8e4m3)
      = (fun i => (args m c).code4 (i 0) (i 1) (i 2) : FVec Ideal S2x128x18944 .fp8e4m3) := by
  funext i
  idx_vars i
  refine (h9_v44 (W17 m ρ c) i0 i1 i2).trans ?_
  rw [carry_v33_0_17]; refine (k_v33_0 m ρ c _ _).trans ?_
  exact congr3 (args m c).code4 (Fin.ext (by simp only [ix3_0]; omega)) (Fin.ext (by simp only [ix3_1]; omega)) rfl

theorem res_v45  :
    (W18 m ρ c (Proc.devRef .tc main_v45) : FVec Ideal S2x128x1 .f32)
      = (fun i => (args m c).scale4 (i 0) (i 1) : FVec Ideal S2x128x1 .f32) := by
  funext i
  idx_vars i
  obtain rfl : i2 = 0 := Subsingleton.elim _ _
  refine (h9_v45 (W17 m ρ c) i0 i1).trans ?_
  rw [carry_v33_1_17]; refine (k_v33_1 m ρ c _).trans ?_
  exact congr (congrArg (args m c).scale4 (Fin.ext (by simp only [ix3_0]; omega))) (Fin.ext (by simp only [ix3_1]; omega))

end Cert.Enc.K
-- ==== Proof.KRun.lean ====
/- The run of the kernel's program with its results: the frame's launch, reading the result arrays as well as the arguments. -/
module

public import proofs.«01_k».proof.Proof.Gen.KernelIdeal.Frame

@[expose] public section

set_option maxRecDepth 16384

noncomputable section

namespace Cert.Enc.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- Every run ends with each result array at its contents in the last boundary valuation, and the arguments as launched. -/
theorem run : θ_run defs (onTc (τ := τ) (main (F := F))) ⟨m, fun _ => 0, ρ⟩ (fun r => ∀ c : Dev nD,
      r.2.mem ((c.tc : Thread nD τ).loc main_v37) = W18 m ρ c (Proc.devRef .tc main_v37)
      ∧ r.2.mem ((c.tc : Thread nD τ).loc main_v38) = W18 m ρ c (Proc.devRef .tc main_v38)
      ∧ r.2.mem ((c.tc : Thread nD τ).loc main_v39) = W18 m ρ c (Proc.devRef .tc main_v39)
      ∧ r.2.mem ((c.tc : Thread nD τ).loc main_v40) = W18 m ρ c (Proc.devRef .tc main_v40)
      ∧ r.2.mem ((c.tc : Thread nD τ).loc main_v41) = W18 m ρ c (Proc.devRef .tc main_v41)
      ∧ r.2.mem ((c.tc : Thread nD τ).loc main_v42) = W18 m ρ c (Proc.devRef .tc main_v42)
      ∧ r.2.mem ((c.tc : Thread nD τ).loc main_v43) = W18 m ρ c (Proc.devRef .tc main_v43)
      ∧ r.2.mem ((c.tc : Thread nD τ).loc main_v44) = W18 m ρ c (Proc.devRef .tc main_v44)
      ∧ r.2.mem ((c.tc : Thread nD τ).loc main_v45) = W18 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ => fun c =>
      ⟨h c _ (mem_uc main_v37 (by decide)),
       h c _ (mem_uc main_v38 (by decide)),
       h c _ (mem_uc main_v39 (by decide)),
       h c _ (mem_uc main_v40 (by decide)),
       h c _ (mem_uc main_v41 (by decide)),
       h c _ (mem_uc main_v42 (by decide)),
       h c _ (mem_uc main_v43 (by decide)),
       h c _ (mem_uc main_v44 (by decide)),
       h c _ (mem_uc main_v45 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c)⟩)

end Cert.Enc.K
-- ==== Proof.RMM.lean ====
/- The reference's four products of codes and weights: what each leaves in its result. -/
module

public import proofs.«01_k».proof.Proof.Gen.ReferenceIdeal.Frame
public import proofs.«01_k».proof.Proof.RefQuant
public import Idealize.ShloMosaic.Lib.Pointwise
public import Idealize.ShloMosaic.Lib.Pipeline.ValueKit

@[expose] public section

set_option maxRecDepth 16384

noncomputable section

namespace Cert.Enc.R

open Idealize.ShloMosaic Idealize.ShloMosaic.TcCoe Idealize.SL.Sem
open Cert.ReferenceIdeal Cert.ReferenceIdeal.Gen

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] :=
  (by decide +kernel : ∀ t : Fin grid0.N, _)

/-- The product. -/
def M0 (c : Dev nD) : FVec Ideal S256x8960 .f32 := fun i =>
  dotp (fun x : Fin 7168 => (V c main_v50 : FVec Ideal S256x7168 .fp8e4m3) (ix2 (i 0) x)) (fun x : Fin 7168 => (V c main_arg3 : FVec Ideal S7168x8960 .fp8e4m3) (ix2 x (i 1)))

set_option maxHeartbeats 2000000 in
theorem product0 (c : Dev nD) : (dat0 V c).arrAt 2 cfg0.N = M0 V c := by
  refine (dat0 V c).arrAt_eq_of_covers 2 _ (by decide +kernel) fun t _ y => ?_
  blk_simp
  rw [after0_2]; frame_out
  unfold M0
  pointwise [k0_pay1, dotp]
  blk_point [iblk0, idx0 t]

theorem idx1 : ∀ t : Fin cfg1.N, win1_0.index t = ![0, 0] ∧ win1_1.index t = ![0, 0] ∧ win1_2.index t = ![0, 0] :=
  (by decide +kernel : ∀ t : Fin grid1.N, _)

/-- The product. -/
def M1 (c : Dev nD) : FVec Ideal S256x7168 .f32 := fun i =>
  dotp (fun x : Fin 6400 => (V c main_v117 : FVec Ideal S256x6400 .fp8e4m3) (ix2 (i 0) x)) (fun x : Fin 6400 => (V c main_arg6 : FVec Ideal S6400x7168 .fp8e4m3) (ix2 x (i 1)))

set_option maxHeartbeats 2000000 in
theorem product1 (c : Dev nD) : (dat1 V c).arrAt 2 cfg1.N = M1 V c := by
  refine (dat1 V c).arrAt_eq_of_covers 2 _ (by decide +kernel) fun t _ y => ?_
  blk_simp
  rw [after1_2]; frame_out
  unfold M1
  pointwise [k1_pay1, dotp]
  blk_point [iblk1, idx1 t]

theorem idx2 : ∀ t : Fin cfg2.N, win2_0.index t = ![0, 0] ∧ win2_1.index t = ![0, 0] ∧ win2_2.index t = ![0, 0] :=
  (by decide +kernel : ∀ t : Fin grid2.N, _)

/-- The product. -/
def M2 (c : Dev nD) : FVec Ideal S256x18944 .f32 := fun i =>
  dotp (fun x : Fin 7168 => (V c main_v178 : FVec Ideal S256x7168 .fp8e4m3) (ix2 (i 0) x)) (fun x : Fin 7168 => (V c main_arg11 : FVec Ideal S7168x18944 .fp8e4m3) (ix2 x (i 1)))

set_option maxHeartbeats 2000000 in
theorem product2 (c : Dev nD) : (dat2 V c).arrAt 2 cfg2.N = M2 V c := by
  refine (dat2 V c).arrAt_eq_of_covers 2 _ (by decide +kernel) fun t _ y => ?_
  blk_simp
  rw [after2_2]; frame_out
  unfold M2
  pointwise [k2_pay1, dotp]
  blk_point [iblk2, idx2 t]

theorem idx3 : ∀ t : Fin cfg3.N, win3_0.index t = ![0, 0] ∧ win3_1.index t = ![0, 0] ∧ win3_2.index t = ![0, 0] :=
  (by decide +kernel : ∀ t : Fin grid3.N, _)

/-- The product. -/
def M3 (c : Dev nD) : FVec Ideal S256x7168 .f32 := fun i =>
  dotp (fun x : Fin 18944 => (V c main_v224 : FVec Ideal S256x18944 .fp8e4m3) (ix2 (i 0) x)) (fun x : Fin 18944 => (V c main_arg14 : FVec Ideal S18944x7168 .fp8e4m3) (ix2 x (i 1)))

set_option maxHeartbeats 2000000 in
theorem product3 (c : Dev nD) : (dat3 V c).arrAt 2 cfg3.N = M3 V c := by
  refine (dat3 V c).arrAt_eq_of_covers 2 _ (by decide +kernel) fun t _ y => ?_
  blk_simp
  rw [after3_2]; frame_out
  unfold M3
  pointwise [k3_pay1, dotp]
  blk_point [iblk3, idx3 t]

end Cert.Enc.R
-- ==== Proof.RQ0.lean ====
/- The reference's quantiser number 0, on the rows of one array: greatest magnitude, scale, codes. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

/-- The operations up to the array that is quantised. -/
abbrev pre0 : List (HloOp τ sig (Elt Ideal)) := hostOps0.take 28
/-- The row's greatest magnitude. -/
abbrev mag0 : List (HloOp τ sig (Elt Ideal)) := (hostOps0.drop 28).take 4
/-- The rest of the stretch, up to the comparison with the listed powers. -/
abbrev cmp0 : List (HloOp τ sig (Elt Ideal)) := hostOps0.drop 32

theorem amax0 (b : Fin 2) (s : Fin 128) :
    (StableHlo.after mag0 V (Proc.devRef .tc main_v25) : FVec Ideal S2x128x1 .f32) (ix3 b s 0)
      = amax (fun j => (V (Proc.devRef .tc main_v22) : FVec Ideal S2x128x7168 .f32) (ix3 b s j)) := by
  after_reads_simp
  pointwise
  rfl

theorem scale0 (b : Fin 2) (s : Fin 128) :
    (StableHlo.after hostOps0_3 (StableHlo.after hostOps0_2 (StableHlo.after hostOps0_1 (StableHlo.after cmp0 V))) (Proc.devRef .tc main_v43) : FVec Ideal S2x128x1 .f32) (ix3 b s 0)
      = scaleOf ((V (Proc.devRef .tc main_v25) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  exact refScale _

theorem codes0 (b : Fin 2) (s : Fin 128) (j : Fin 7168) :
    (StableHlo.after hostOps0_6 (StableHlo.after hostOps0_5 (StableHlo.after hostOps0_4 V)) (Proc.devRef .tc main_v49) : FVec Ideal S2x128x7168 .fp8e4m3) (ix3 b s j)
      = code ((V (Proc.devRef .tc main_v22) : FVec Ideal S2x128x7168 .f32) (ix3 b s j)) ((V (Proc.devRef .tc main_v43) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  rfl

theorem rows0 (r : Fin 256) (j : Fin 7168) :
    (StableHlo.after hostOps0_6 V (Proc.devRef .tc main_v50) : FVec Ideal S256x7168 .fp8e4m3) (ix2 r j)
      = (StableHlo.after hostOps0_6 V (Proc.devRef .tc main_v49) : FVec Ideal S2x128x7168 .fp8e4m3) (ix3 ⟨r / 128, by omega⟩ ⟨r % 128, by omega⟩ j) := by
  after_reads_simp
  pointwise

end Cert.Enc.R
-- ==== Proof.RQ1.lean ====
/- The reference's quantiser number 1, on the rows of one array: greatest magnitude, scale, codes. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

/-- The operations up to the array that is quantised. -/
abbrev pre1 : List (HloOp τ sig (Elt Ideal)) := hostOps1.take 42
/-- The row's greatest magnitude. -/
abbrev mag1 : List (HloOp τ sig (Elt Ideal)) := (hostOps1.drop 42).take 4
/-- The rest of the stretch, up to the comparison with the listed powers. -/
abbrev cmp1 : List (HloOp τ sig (Elt Ideal)) := hostOps1.drop 46

theorem amax1 (b : Fin 2) (s : Fin 128) :
    (StableHlo.after mag1 V (Proc.devRef .tc main_v92) : FVec Ideal S2x128x1 .f32) (ix3 b s 0)
      = amax (fun j => (V (Proc.devRef .tc main_v89) : FVec Ideal S2x128x6400 .f32) (ix3 b s j)) := by
  after_reads_simp
  pointwise
  rfl

theorem scale1 (b : Fin 2) (s : Fin 128) :
    (StableHlo.after hostOps1_3 (StableHlo.after hostOps1_2 (StableHlo.after hostOps1_1 (StableHlo.after cmp1 V))) (Proc.devRef .tc main_v110) : FVec Ideal S2x128x1 .f32) (ix3 b s 0)
      = scaleOf ((V (Proc.devRef .tc main_v92) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  exact refScale _

theorem codes1 (b : Fin 2) (s : Fin 128) (j : Fin 6400) :
    (StableHlo.after hostOps1_6 (StableHlo.after hostOps1_5 (StableHlo.after hostOps1_4 V)) (Proc.devRef .tc main_v116) : FVec Ideal S2x128x6400 .fp8e4m3) (ix3 b s j)
      = code ((V (Proc.devRef .tc main_v89) : FVec Ideal S2x128x6400 .f32) (ix3 b s j)) ((V (Proc.devRef .tc main_v110) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  rfl

theorem rows1 (r : Fin 256) (j : Fin 6400) :
    (StableHlo.after hostOps1_6 V (Proc.devRef .tc main_v117) : FVec Ideal S256x6400 .fp8e4m3) (ix2 r j)
      = (StableHlo.after hostOps1_6 V (Proc.devRef .tc main_v116) : FVec Ideal S2x128x6400 .fp8e4m3) (ix3 ⟨r / 128, by omega⟩ ⟨r % 128, by omega⟩ j) := by
  after_reads_simp
  pointwise

end Cert.Enc.R
-- ==== Proof.RQ2.lean ====
/- The reference's quantiser number 2, on the rows of one array: greatest magnitude, scale, codes. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

/-- The operations up to the array that is quantised. -/
abbrev pre2 : List (HloOp τ sig (Elt Ideal)) := hostOps2.take 37
/-- The row's greatest magnitude. -/
abbrev mag2 : List (HloOp τ sig (Elt Ideal)) := (hostOps2.drop 37).take 4
/-- The rest of the stretch, up to the comparison with the listed powers. -/
abbrev cmp2 : List (HloOp τ sig (Elt Ideal)) := hostOps2.drop 41

theorem amax2 (b : Fin 2) (s : Fin 128) :
    (StableHlo.after mag2 V (Proc.devRef .tc main_v153) : FVec Ideal S2x128x1 .f32) (ix3 b s 0)
      = amax (fun j => (V (Proc.devRef .tc main_v150) : FVec Ideal S2x128x7168 .f32) (ix3 b s j)) := by
  after_reads_simp
  pointwise
  rfl

theorem scale2 (b : Fin 2) (s : Fin 128) :
    (StableHlo.after hostOps2_3 (StableHlo.after hostOps2_2 (StableHlo.after hostOps2_1 (StableHlo.after cmp2 V))) (Proc.devRef .tc main_v171) : FVec Ideal S2x128x1 .f32) (ix3 b s 0)
      = scaleOf ((V (Proc.devRef .tc main_v153) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  exact refScale _

theorem codes2 (b : Fin 2) (s : Fin 128) (j : Fin 7168) :
    (StableHlo.after hostOps2_6 (StableHlo.after hostOps2_5 (StableHlo.after hostOps2_4 V)) (Proc.devRef .tc main_v177) : FVec Ideal S2x128x7168 .fp8e4m3) (ix3 b s j)
      = code ((V (Proc.devRef .tc main_v150) : FVec Ideal S2x128x7168 .f32) (ix3 b s j)) ((V (Proc.devRef .tc main_v171) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  rfl

theorem rows2 (r : Fin 256) (j : Fin 7168) :
    (StableHlo.after hostOps2_6 V (Proc.devRef .tc main_v178) : FVec Ideal S256x7168 .fp8e4m3) (ix2 r j)
      = (StableHlo.after hostOps2_6 V (Proc.devRef .tc main_v177) : FVec Ideal S2x128x7168 .fp8e4m3) (ix3 ⟨r / 128, by omega⟩ ⟨r % 128, by omega⟩ j) := by
  after_reads_simp
  pointwise

end Cert.Enc.R
-- ==== Proof.RQ3.lean ====
/- The reference's quantiser number 3, on the rows of one array: greatest magnitude, scale, codes. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

/-- The operations up to the array that is quantised. -/
abbrev pre3 : List (HloOp τ sig (Elt Ideal)) := hostOps3.take 20
/-- The row's greatest magnitude. -/
abbrev mag3 : List (HloOp τ sig (Elt Ideal)) := (hostOps3.drop 20).take 4
/-- The rest of the stretch, up to the comparison with the listed powers. -/
abbrev cmp3 : List (HloOp τ sig (Elt Ideal)) := hostOps3.drop 24

theorem amax3 (b : Fin 2) (s : Fin 128) :
    (StableHlo.after mag3 V (Proc.devRef .tc main_v199) : FVec Ideal S2x128x1 .f32) (ix3 b s 0)
      = amax (fun j => (V (Proc.devRef .tc main_v196) : FVec Ideal S2x128x18944 .f32) (ix3 b s j)) := by
  after_reads_simp
  pointwise
  rfl

theorem scale3 (b : Fin 2) (s : Fin 128) :
    (StableHlo.after hostOps3_3 (StableHlo.after hostOps3_2 (StableHlo.after hostOps3_1 (StableHlo.after cmp3 V))) (Proc.devRef .tc main_v217) : FVec Ideal S2x128x1 .f32) (ix3 b s 0)
      = scaleOf ((V (Proc.devRef .tc main_v199) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  exact refScale _

theorem codes3 (b : Fin 2) (s : Fin 128) (j : Fin 18944) :
    (StableHlo.after hostOps3_6 (StableHlo.after hostOps3_5 (StableHlo.after hostOps3_4 V)) (Proc.devRef .tc main_v223) : FVec Ideal S2x128x18944 .fp8e4m3) (ix3 b s j)
      = code ((V (Proc.devRef .tc main_v196) : FVec Ideal S2x128x18944 .f32) (ix3 b s j)) ((V (Proc.devRef .tc main_v217) : FVec Ideal S2x128x1 .f32) (ix3 b s 0)) := by
  after_reads_simp
  simp -implicitDefEqProofs only [StableHlo.TRef.ofBuf_toBuf, StableHlo.TRef.toBuf, StableHlo.TRef.ofBuf, cast_eq, id]
  pointwise
  rfl

theorem rows3 (r : Fin 256) (j : Fin 18944) :
    (StableHlo.after hostOps3_6 V (Proc.devRef .tc main_v224) : FVec Ideal S256x18944 .fp8e4m3) (ix2 r j)
      = (StableHlo.after hostOps3_6 V (Proc.devRef .tc main_v223) : FVec Ideal S2x128x18944 .fp8e4m3) (ix3 ⟨r / 128, by omega⟩ ⟨r % 128, by omega⟩ j) := by
  after_reads_simp
  pointwise

end Cert.Enc.R
-- ==== Proof.RPre0.lean ====
/- The reference's layer norm of the input. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

theorem pre0_ln (b : Fin 2) (s : Fin 128) (j : Fin 7168) :
    (StableHlo.after (hostOps0.take 28) V (Proc.devRef .tc main_v22) : FVec Ideal S2x128x7168 .f32) (ix3 b s j)
      = lnRow (fun j => (V (Proc.devRef .tc main_arg0) : FVec Ideal S2x128x7168 .bf16) (ix3 b s j)) (fun j => (V (Proc.devRef .tc main_arg1) : FVec Ideal S7168 .f32) (ix1 j)) (fun j => (V (Proc.devRef .tc main_arg2) : FVec Ideal S7168 .f32) (ix1 j)) j := by
  after_reads_simp
  pointwise
  rfl

theorem pre0_x (b : Fin 2) (s : Fin 128) (j : Fin 7168) :
    (StableHlo.after (hostOps0.take 28) V (Proc.devRef .tc main_v0) : FVec Ideal S2x128x7168 .f32) (ix3 b s j) = (V (Proc.devRef .tc main_arg0) : FVec Ideal S2x128x7168 .bf16) (ix3 b s j) := by
  after_reads_simp
  rfl

end Cert.Enc.R
-- ==== Proof.RPre1.lean ====
/- The reference's query, key and value projection and its attention. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

theorem pre1_qkv (b : Fin 2) (s : Fin 128) (j : Fin 8960) :
    (StableHlo.after (hostOps1.take 9) V (Proc.devRef .tc main_v60) : FVec Ideal S2x128x8960 .f32) (ix3 b s j)
      = proj1 ((V (Proc.devRef .tc main_v51) : FVec Ideal S256x8960 .f32) (ix2 ⟨b * 128 + s, by omega⟩ j)) ((V (Proc.devRef .tc main_v43) : FVec Ideal S2x128x1 .f32) (ix3 b s 0)) ((V (Proc.devRef .tc main_arg4) : FVec Ideal S8960 .f32) (ix1 j)) ((V (Proc.devRef .tc main_arg5) : FVec Ideal S8960 .f32) (ix1 j)) := by
  after_reads_simp
  pointwise
  rfl

/-- The operations to the scaled scores and the values. -/
abbrev att1 : List (HloOp τ sig (Elt Ideal)) := (hostOps1.drop 9).take 15
/-- The softmax. -/
abbrev att2 : List (HloOp τ sig (Elt Ideal)) := (hostOps1.drop 24).take 14
/-- The weighted sum of the values. -/
abbrev att3 : List (HloOp τ sig (Elt Ideal)) := (hostOps1.drop 38).take 4

theorem pre1_v (b : Fin 2) (t : Fin 128) (h : Fin 8) (d : Fin 160) :
    (StableHlo.after att1 V (Proc.devRef .tc main_v69) : FVec Ideal S2x128x8x160 .bf16) (ix4 b t h d) = (V (Proc.devRef .tc main_v60) : FVec Ideal S2x128x8960 .f32) (ix3 b t ⟨7680 + (h * 160 + d), by omega⟩) := by
  after_reads_simp
  pointwise

theorem pre1_score (b : Fin 2) (h : Fin 8) (g : Fin 5) (q t : Fin 128) :
    (StableHlo.after att1 V (Proc.devRef .tc main_v74) : FVec Ideal S2x8x5x128x128 .f32) (ix5 b h g q t)
      = score (fun d => (V (Proc.devRef .tc main_v60) : FVec Ideal S2x128x8960 .f32) (ix3 b q ⟨(h * 5 + g) * 160 + d, by omega⟩))
          (fun t d => (V (Proc.devRef .tc main_v60) : FVec Ideal S2x128x8960 .f32) (ix3 b t ⟨6400 + (h * 160 + d), by omega⟩)) t := by
  after_reads_simp
  pointwise
  exact congrArg (fun z : EReal => z * Ideal.ofBits .f32 0x3DA1E89B#32) (Finset.sum_congr rfl fun d _ => mul_comm _ _)

theorem pre1_soft (b : Fin 2) (h : Fin 8) (g : Fin 5) (q t : Fin 128) :
    (StableHlo.after att2 V (Proc.devRef .tc main_v85) : FVec Ideal S2x8x5x128x128 .f32) (ix5 b h g q t)
      = soft (fun t => (V (Proc.devRef .tc main_v74) : FVec Ideal S2x8x5x128x128 .f32) (ix5 b h g q t)) t := by
  after_reads_simp
  pointwise
  unfold soft
  rw [max_fold]

theorem pre1_out (b : Fin 2) (s : Fin 128) (j : Fin 6400) :
    (StableHlo.after att3 V (Proc.devRef .tc main_v89) : FVec Ideal S2x128x6400 .f32) (ix3 b s j)
      = dotp (fun t : Fin 128 => (V (Proc.devRef .tc main_v69) : FVec Ideal S2x128x8x160 .bf16) (ix4 b t ⟨j / 800, by omega⟩ ⟨j % 160, by omega⟩))
          (fun t => (V (Proc.devRef .tc main_v85) : FVec Ideal S2x8x5x128x128 .f32) (ix5 b ⟨j / 800, by omega⟩ ⟨j / 160 % 5, by omega⟩ s t)) := by
  after_reads_simp
  pointwise
  rfl

end Cert.Enc.R
-- ==== Proof.RPre2.lean ====
/- The reference's output projection, residual and second layer norm. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

theorem pre2_h (b : Fin 2) (s : Fin 128) (j : Fin 7168) :
    (StableHlo.after (hostOps2.take 10) V (Proc.devRef .tc main_v128) : FVec Ideal S2x128x7168 .f32) (ix3 b s j)
      = resid ((V (Proc.devRef .tc main_v0) : FVec Ideal S2x128x7168 .f32) (ix3 b s j)) (proj1 ((V (Proc.devRef .tc main_v118) : FVec Ideal S256x7168 .f32) (ix2 ⟨b * 128 + s, by omega⟩ j)) ((V (Proc.devRef .tc main_v110) : FVec Ideal S2x128x1 .f32) (ix3 b s 0)) ((V (Proc.devRef .tc main_arg7) : FVec Ideal S7168 .f32) (ix1 j)) ((V (Proc.devRef .tc main_arg8) : FVec Ideal S7168 .f32) (ix1 j))) := by
  after_reads_simp
  pointwise
  rfl

/-- The operations of the layer norm. -/
abbrev norm2 : List (HloOp τ sig (Elt Ideal)) := (hostOps2.drop 10).take 27

theorem pre2_ln (b : Fin 2) (s : Fin 128) (j : Fin 7168) :
    (StableHlo.after norm2 V (Proc.devRef .tc main_v150) : FVec Ideal S2x128x7168 .f32) (ix3 b s j)
      = lnRow (fun j => (V (Proc.devRef .tc main_v128) : FVec Ideal S2x128x7168 .f32) (ix3 b s j)) (fun j => (V (Proc.devRef .tc main_arg9) : FVec Ideal S7168 .f32) (ix1 j)) (fun j => (V (Proc.devRef .tc main_arg10) : FVec Ideal S7168 .f32) (ix1 j)) j := by
  after_reads_simp
  pointwise
  rfl

end Cert.Enc.R
-- ==== Proof.RPre3.lean ====
/- The reference's feed-forward block around its two products. -/
module

public import proofs.«01_k».proof.Proof.Gen.ReferenceIdeal.Launch
public import proofs.«01_k».proof.Proof.RefQuant
public import Idealize.ShloMosaic.Lib.StableHlo.ReadAt
public import Idealize.ShloMosaic.Lib.Pointwise

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

theorem pre3_gelu (b : Fin 2) (s : Fin 128) (j : Fin 18944) :
    (StableHlo.after (hostOps3.take 20) V (Proc.devRef .tc main_v196) : FVec Ideal S2x128x18944 .f32) (ix3 b s j)
      = gelu (proj1 ((V (Proc.devRef .tc main_v179) : FVec Ideal S256x18944 .f32) (ix2 ⟨b * 128 + s, by omega⟩ j)) ((V (Proc.devRef .tc main_v171) : FVec Ideal S2x128x1 .f32) (ix3 b s 0)) ((V (Proc.devRef .tc main_arg12) : FVec Ideal S18944 .f32) (ix1 j)) ((V (Proc.devRef .tc main_arg13) : FVec Ideal S18944 .f32) (ix1 j))) := by
  after_reads_simp
  pointwise
  unfold gelu proj1
  rw [Ideal.ofBits_one_f32]

theorem post4_y (b : Fin 2) (s : Fin 128) (j : Fin 7168) :
    (StableHlo.after hostOps4 V (Proc.devRef .tc main_v236) : FVec Ideal S2x128x7168 .bf16) (ix3 b s j)
      = resid ((V (Proc.devRef .tc main_v128) : FVec Ideal S2x128x7168 .f32) (ix3 b s j)) (proj1 ((V (Proc.devRef .tc main_v225) : FVec Ideal S256x7168 .f32) (ix2 ⟨b * 128 + s, by omega⟩ j)) ((V (Proc.devRef .tc main_v217) : FVec Ideal S2x128x1 .f32) (ix3 b s 0)) ((V (Proc.devRef .tc main_arg15) : FVec Ideal S7168 .f32) (ix1 j)) ((V (Proc.devRef .tc main_arg16) : FVec Ideal S7168 .f32) (ix1 j))) := by
  after_reads_simp
  pointwise
  rfl

end Cert.Enc.R
-- ==== Proof.RKeep.lean ====
/- The reference's host operations in their pieces, and the arrays that a piece leaves as they were. -/
module

public import proofs.«01_k».proof.Proof.Gen.ReferenceIdeal.Launch
public import proofs.«01_k».proof.Proof.RQ0
public import proofs.«01_k».proof.Proof.RQ1
public import proofs.«01_k».proof.Proof.RQ2
public import proofs.«01_k».proof.Proof.RQ3
public import proofs.«01_k».proof.Proof.RPre0
public import proofs.«01_k».proof.Proof.RPre1
public import proofs.«01_k».proof.Proof.RPre2
public import proofs.«01_k».proof.Proof.RPre3
public import Idealize.ShloMosaic.Lib.Pipeline.Frame
public import Idealize.ShloMosaic.Lib.StableHlo.ReadAt

@[expose] public section

set_option maxRecDepth 16384

noncomputable section

namespace Cert.Enc.R

open Idealize.ShloMosaic Idealize.ShloMosaic.TcCoe Idealize.SL.Sem
open Cert.ReferenceIdeal Cert.ReferenceIdeal.Gen

variable (V : Valuation τ sig (Elt Ideal))

theorem cut0 : (hostOps0 : List (HloOp τ sig (Elt Ideal))) = pre0 ++ (mag0 ++ (cmp0)) := rfl

theorem split0 : StableHlo.after hostOps0 V = (StableHlo.after cmp0 (StableHlo.after mag0 (StableHlo.after pre0 V))) :=
  (congrArg (fun l => StableHlo.after l V) cut0).trans (by simp only [StableHlo.after_append])

theorem cut1 : (hostOps1 : List (HloOp τ sig (Elt Ideal))) = (hostOps1.take 9) ++ (att1 ++ (att2 ++ (att3 ++ (mag1 ++ (cmp1))))) := rfl

theorem split1 : StableHlo.after hostOps1 V = (StableHlo.after cmp1 (StableHlo.after mag1 (StableHlo.after att3 (StableHlo.after att2 (StableHlo.after att1 (StableHlo.after (hostOps1.take 9) V)))))) :=
  (congrArg (fun l => StableHlo.after l V) cut1).trans (by simp only [StableHlo.after_append])

theorem cut2 : (hostOps2 : List (HloOp τ sig (Elt Ideal))) = (hostOps2.take 10) ++ (norm2 ++ (mag2 ++ (cmp2))) := rfl

theorem split2 : StableHlo.after hostOps2 V = (StableHlo.after cmp2 (StableHlo.after mag2 (StableHlo.after norm2 (StableHlo.after (hostOps2.take 10) V)))) :=
  (congrArg (fun l => StableHlo.after l V) cut2).trans (by simp only [StableHlo.after_append])

theorem cut3 : (hostOps3 : List (HloOp τ sig (Elt Ideal))) = pre3 ++ (mag3 ++ (cmp3)) := rfl

theorem split3 : StableHlo.after hostOps3 V = (StableHlo.after cmp3 (StableHlo.after mag3 (StableHlo.after pre3 V))) :=
  (congrArg (fun l => StableHlo.after l V) cut3).trans (by simp only [StableHlo.after_append])

theorem mag0_v22 : (StableHlo.after mag0 V (Proc.devRef .tc main_v22) : FVec Ideal S2x128x7168 .f32) = (V (Proc.devRef .tc main_v22) : FVec Ideal S2x128x7168 .f32) := by
  after_reads_simp

theorem cmp0_v22 : (StableHlo.after cmp0 V (Proc.devRef .tc main_v22) : FVec Ideal S2x128x7168 .f32) = (V (Proc.devRef .tc main_v22) : FVec Ideal S2x128x7168 .f32) := by
  after_reads_simp

theorem mag1_v89 : (StableHlo.after mag1 V (Proc.devRef .tc main_v89) : FVec Ideal S2x128x6400 .f32) = (V (Proc.devRef .tc main_v89) : FVec Ideal S2x128x6400 .f32) := by
  after_reads_simp

theorem cmp1_v89 : (StableHlo.after cmp1 V (Proc.devRef .tc main_v89) : FVec Ideal S2x128x6400 .f32) = (V (Proc.devRef .tc main_v89) : FVec Ideal S2x128x6400 .f32) := by
  after_reads_simp

theorem mag2_v150 : (StableHlo.after mag2 V (Proc.devRef .tc main_v150) : FVec Ideal S2x128x7168 .f32) = (V (Proc.devRef .tc main_v150) : FVec Ideal S2x128x7168 .f32) := by
  after_reads_simp

theorem cmp2_v150 : (StableHlo.after cmp2 V (Proc.devRef .tc main_v150) : FVec Ideal S2x128x7168 .f32) = (V (Proc.devRef .tc main_v150) : FVec Ideal S2x128x7168 .f32) := by
  after_reads_simp

theorem mag3_v196 : (StableHlo.after mag3 V (Proc.devRef .tc main_v196) : FVec Ideal S2x128x18944 .f32) = (V (Proc.devRef .tc main_v196) : FVec Ideal S2x128x18944 .f32) := by
  after_reads_simp

theorem cmp3_v196 : (StableHlo.after cmp3 V (Proc.devRef .tc main_v196) : FVec Ideal S2x128x18944 .f32) = (V (Proc.devRef .tc main_v196) : FVec Ideal S2x128x18944 .f32) := by
  after_reads_simp

theorem mag0_v0 : (StableHlo.after mag0 V (Proc.devRef .tc main_v0) : FVec Ideal S2x128x7168 .f32) = (V (Proc.devRef .tc main_v0) : FVec Ideal S2x128x7168 .f32) := by
  after_reads_simp

theorem cmp0_v0 : (StableHlo.after cmp0 V (Proc.devRef .tc main_v0) : FVec Ideal S2x128x7168 .f32) = (V (Proc.devRef .tc main_v0) : FVec Ideal S2x128x7168 .f32) := by
  after_reads_simp

theorem att2_v69 : (StableHlo.after att2 V (Proc.devRef .tc main_v69) : FVec Ideal S2x128x8x160 .bf16) = (V (Proc.devRef .tc main_v69) : FVec Ideal S2x128x8x160 .bf16) := by
  after_reads_simp

theorem norm2_v128 : (StableHlo.after norm2 V (Proc.devRef .tc main_v128) : FVec Ideal S2x128x7168 .f32) = (V (Proc.devRef .tc main_v128) : FVec Ideal S2x128x7168 .f32) := by
  after_reads_simp

theorem mag2_v128 : (StableHlo.after mag2 V (Proc.devRef .tc main_v128) : FVec Ideal S2x128x7168 .f32) = (V (Proc.devRef .tc main_v128) : FVec Ideal S2x128x7168 .f32) := by
  after_reads_simp

theorem cmp2_v128 : (StableHlo.after cmp2 V (Proc.devRef .tc main_v128) : FVec Ideal S2x128x7168 .f32) = (V (Proc.devRef .tc main_v128) : FVec Ideal S2x128x7168 .f32) := by
  after_reads_simp

theorem hid2_arg9 : (StableHlo.after (hostOps2.take 10) V (Proc.devRef .tc main_arg9) : FVec Ideal S7168 .f32) = (V (Proc.devRef .tc main_arg9) : FVec Ideal S7168 .f32) := by
  after_reads_simp

theorem hid2_arg10 : (StableHlo.after (hostOps2.take 10) V (Proc.devRef .tc main_arg10) : FVec Ideal S7168 .f32) = (V (Proc.devRef .tc main_arg10) : FVec Ideal S7168 .f32) := by
  after_reads_simp

end Cert.Enc.R
-- ==== Proof.RChain.lean ====
/- The reference's arrays, one after the other, are the layer's rows. -/
module

public import proofs.«01_k».proof.Proof.Gen.ReferenceIdeal.Frame
public import proofs.«01_k».proof.Proof.RMM
public import proofs.«01_k».proof.Proof.RKeep
public import proofs.«01_k».proof.Proof.Layer

@[expose] public section

set_option maxRecDepth 16384

noncomputable section

namespace Cert.Enc.R

open Idealize.ShloMosaic Idealize.ShloMosaic.TcCoe Idealize.SL.Sem
open Cert.ReferenceIdeal Cert.ReferenceIdeal.Gen

theorem proj1_congr {a a' t t' s s' b b' : EReal} (ha : a = a') (ht : t = t') (hs : s = s') (hb : b = b') :
    proj1 a t s b = proj1 a' t' s' b' := by
  rw [ha, ht, hs, hb]

variable (m : (ℓ : Loc nD τ sig) → Buf (Elt Ideal) ℓ) (ρ : Dev nD → PrngReg) (c : Dev nD)

/-- The program's arguments, element by element. -/
def args : Args where
  x := fun i j k => (m ((c : Thread nD τ).loc main_arg0) : FVec Ideal S2x128x7168 .bf16) (ix3 i j k)
  g1 := fun i => (m ((c : Thread nD τ).loc main_arg1) : FVec Ideal S7168 .f32) (ix1 i)
  b1 := fun i => (m ((c : Thread nD τ).loc main_arg2) : FVec Ideal S7168 .f32) (ix1 i)
  wq := fun i j => (m ((c : Thread nD τ).loc main_arg3) : FVec Ideal S7168x8960 .fp8e4m3) (ix2 i j)
  sq := fun i => (m ((c : Thread nD τ).loc main_arg4) : FVec Ideal S8960 .f32) (ix1 i)
  bq := fun i => (m ((c : Thread nD τ).loc main_arg5) : FVec Ideal S8960 .f32) (ix1 i)
  wo := fun i j => (m ((c : Thread nD τ).loc main_arg6) : FVec Ideal S6400x7168 .fp8e4m3) (ix2 i j)
  so := fun i => (m ((c : Thread nD τ).loc main_arg7) : FVec Ideal S7168 .f32) (ix1 i)
  bo := fun i => (m ((c : Thread nD τ).loc main_arg8) : FVec Ideal S7168 .f32) (ix1 i)
  g2 := fun i => (m ((c : Thread nD τ).loc main_arg9) : FVec Ideal S7168 .f32) (ix1 i)
  b2 := fun i => (m ((c : Thread nD τ).loc main_arg10) : FVec Ideal S7168 .f32) (ix1 i)
  wi := fun i j => (m ((c : Thread nD τ).loc main_arg11) : FVec Ideal S7168x18944 .fp8e4m3) (ix2 i j)
  si := fun i => (m ((c : Thread nD τ).loc main_arg12) : FVec Ideal S18944 .f32) (ix1 i)
  bi := fun i => (m ((c : Thread nD τ).loc main_arg13) : FVec Ideal S18944 .f32) (ix1 i)
  wf := fun i j => (m ((c : Thread nD τ).loc main_arg14) : FVec Ideal S18944x7168 .fp8e4m3) (ix2 i j)
  sf := fun i => (m ((c : Thread nD τ).loc main_arg15) : FVec Ideal S7168 .f32) (ix1 i)
  bf := fun i => (m ((c : Thread nD τ).loc main_arg16) : FVec Ideal S7168 .f32) (ix1 i)

theorem carry_v43_8 : (W8 m ρ c (Proc.devRef .tc main_v43) : FVec Ideal S2x128x1 .f32) = (W4 m ρ c (Proc.devRef .tc main_v43) : FVec Ideal S2x128x1 .f32) :=
  ((W8_of m ρ c main_v43 (by decide)).trans ((W7_of m ρ c main_v43 (by decide)).trans ((W6_of m ρ c main_v43 (by decide)).trans (W5_of m ρ c main_v43 (by decide)))))

theorem carry_v43_33 : (W33 m ρ c (Proc.devRef .tc main_v43) : FVec Ideal S2x128x1 .f32) = (W4 m ρ c (Proc.devRef .tc main_v43) : FVec Ideal S2x128x1 .f32) :=
  ((W33_of m ρ c main_v43 (by decide)).trans ((W32_of m ρ c main_v43 (by decide)).trans ((W31_of m ρ c main_v43 (by decide)).trans ((W30_of m ρ c main_v43 (by decide)).trans ((W29_of m ρ c main_v43 (by decide)).trans ((W28_of m ρ c main_v43 (by decide)).trans ((W27_of m ρ c main_v43 (by decide)).trans ((W26_of m ρ c main_v43 (by decide)).trans ((W25_of m ρ c main_v43 (by decide)).trans ((W24_of m ρ c main_v43 (by decide)).trans ((W23_of m ρ c main_v43 (by decide)).trans ((W22_of m ρ c main_v43 (by decide)).trans ((W21_of m ρ c main_v43 (by decide)).trans ((W20_of m ρ c main_v43 (by decide)).trans ((W19_of m ρ c main_v43 (by decide)).trans ((W18_of m ρ c main_v43 (by decide)).trans ((W17_of m ρ c main_v43 (by decide)).trans ((W16_of m ρ c main_v43 (by decide)).trans ((W15_of m ρ c main_v43 (by decide)).trans ((W14_of m ρ c main_v43 (by decide)).trans ((W13_of m ρ c main_v43 (by decide)).trans ((W12_of m ρ c main_v43 (by decide)).trans ((W11_of m ρ c main_v43 (by decide)).trans ((W10_of m ρ c main_v43 (by decide)).trans ((W9_of m ρ c main_v43 (by decide)).trans ((W8_of m ρ c main_v43 (by decide)).trans ((W7_of m ρ c main_v43 (by decide)).trans ((W6_of m ρ c main_v43 (by decide)).trans (W5_of m ρ c main_v43 (by decide))))))))))))))))))))))))))))))

theorem carry_v49_33 : (W33 m ρ c (Proc.devRef .tc main_v49) : FVec Ideal S2x128x7168 .fp8e4m3) = (W7 m ρ c (Proc.devRef .tc main_v49) : FVec Ideal S2x128x7168 .fp8e4m3) :=
  ((W33_of m ρ c main_v49 (by decide)).trans ((W32_of m ρ c main_v49 (by decide)).trans ((W31_of m ρ c main_v49 (by decide)).trans ((W30_of m ρ c main_v49 (by decide)).trans ((W29_of m ρ c main_v49 (by decide)).trans ((W28_of m ρ c main_v49 (by decide)).trans ((W27_of m ρ c main_v49 (by decide)).trans ((W26_of m ρ c main_v49 (by decide)).trans ((W25_of m ρ c main_v49 (by decide)).trans ((W24_of m ρ c main_v49 (by decide)).trans ((W23_of m ρ c main_v49 (by decide)).trans ((W22_of m ρ c main_v49 (by decide)).trans ((W21_of m ρ c main_v49 (by decide)).trans ((W20_of m ρ c main_v49 (by decide)).trans ((W19_of m ρ c main_v49 (by decide)).trans ((W18_of m ρ c main_v49 (by decide)).trans ((W17_of m ρ c main_v49 (by decide)).trans ((W16_of m ρ c main_v49 (by decide)).trans ((W15_of m ρ c main_v49 (by decide)).trans ((W14_of m ρ c main_v49 (by decide)).trans ((W13_of m ρ c main_v49 (by decide)).trans ((W12_of m ρ c main_v49 (by decide)).trans ((W11_of m ρ c main_v49 (by decide)).trans ((W10_of m ρ c main_v49 (by decide)).trans ((W9_of m ρ c main_v49 (by decide)).trans (W8_of m ρ c main_v49 (by decide)))))))))))))))))))))))))))

theorem carry_v22_4 : (W4 m ρ c (Proc.devRef .tc main_v22) : FVec Ideal S2x128x7168 .f32) = (W1 m ρ c (Proc.devRef .tc main_v22) : FVec Ideal S2x128x7168 .f32) :=
  ((W4_of m ρ c main_v22 (by decide)).trans ((W3_of m ρ c main_v22 (by decide)).trans (W2_of m ρ c main_v22 (by decide))))

theorem carry_v110_16 : (W16 m ρ c (Proc.devRef .tc main_v110) : FVec Ideal S2x128x1 .f32) = (W12 m ρ c (Proc.devRef .tc main_v110) : FVec Ideal S2x128x1 .f32) :=
  ((W16_of m ρ c main_v110 (by decide)).trans ((W15_of m ρ c main_v110 (by decide)).trans ((W14_of m ρ c main_v110 (by decide)).trans (W13_of m ρ c main_v110 (by decide)))))

theorem carry_v110_33 : (W33 m ρ c (Proc.devRef .tc main_v110) : FVec Ideal S2x128x1 .f32) = (W12 m ρ c (Proc.devRef .tc main_v110) : FVec Ideal S2x128x1 .f32) :=
  ((W33_of m ρ c main_v110 (by decide)).trans ((W32_of m ρ c main_v110 (by decide)).trans ((W31_of m ρ c main_v110 (by decide)).trans ((W30_of m ρ c main_v110 (by decide)).trans ((W29_of m ρ c main_v110 (by decide)).trans ((W28_of m ρ c main_v110 (by decide)).trans ((W27_of m ρ c main_v110 (by decide)).trans ((W26_of m ρ c main_v110 (by decide)).trans ((W25_of m ρ c main_v110 (by decide)).trans ((W24_of m ρ c main_v110 (by decide)).trans ((W23_of m ρ c main_v110 (by decide)).trans ((W22_of m ρ c main_v110 (by decide)).trans ((W21_of m ρ c main_v110 (by decide)).trans ((W20_of m ρ c main_v110 (by decide)).trans ((W19_of m ρ c main_v110 (by decide)).trans ((W18_of m ρ c main_v110 (by decide)).trans ((W17_of m ρ c main_v110 (by decide)).trans ((W16_of m ρ c main_v110 (by decide)).trans ((W15_of m ρ c main_v110 (by decide)).trans ((W14_of m ρ c main_v110 (by decide)).trans (W13_of m ρ c main_v110 (by decide))))))))))))))))))))))

theorem carry_v116_33 : (W33 m ρ c (Proc.devRef .tc main_v116) : FVec Ideal S2x128x6400 .fp8e4m3) = (W15 m ρ c (Proc.devRef .tc main_v116) : FVec Ideal S2x128x6400 .fp8e4m3) :=
  ((W33_of m ρ c main_v116 (by decide)).trans ((W32_of m ρ c main_v116 (by decide)).trans ((W31_of m ρ c main_v116 (by decide)).trans ((W30_of m ρ c main_v116 (by decide)).trans ((W29_of m ρ c main_v116 (by decide)).trans ((W28_of m ρ c main_v116 (by decide)).trans ((W27_of m ρ c main_v116 (by decide)).trans ((W26_of m ρ c main_v116 (by decide)).trans ((W25_of m ρ c main_v116 (by decide)).trans ((W24_of m ρ c main_v116 (by decide)).trans ((W23_of m ρ c main_v116 (by decide)).trans ((W22_of m ρ c main_v116 (by decide)).trans ((W21_of m ρ c main_v116 (by decide)).trans ((W20_of m ρ c main_v116 (by decide)).trans ((W19_of m ρ c main_v116 (by decide)).trans ((W18_of m ρ c main_v116 (by decide)).trans ((W17_of m ρ c main_v116 (by decide)).trans (W16_of m ρ c main_v116 (by decide)))))))))))))))))))

theorem carry_v89_12 : (W12 m ρ c (Proc.devRef .tc main_v89) : FVec Ideal S2x128x6400 .f32) = (W9 m ρ c (Proc.devRef .tc main_v89) : FVec Ideal S2x128x6400 .f32) :=
  ((W12_of m ρ c main_v89 (by decide)).trans ((W11_of m ρ c main_v89 (by decide)).trans (W10_of m ρ c main_v89 (by decide))))

theorem carry_v171_24 : (W24 m ρ c (Proc.devRef .tc main_v171) : FVec Ideal S2x128x1 .f32) = (W20 m ρ c (Proc.devRef .tc main_v171) : FVec Ideal S2x128x1 .f32) :=
  ((W24_of m ρ c main_v171 (by decide)).trans ((W23_of m ρ c main_v171 (by decide)).trans ((W22_of m ρ c main_v171 (by decide)).trans (W21_of m ρ c main_v171 (by decide)))))

theorem carry_v171_33 : (W33 m ρ c (Proc.devRef .tc main_v171) : FVec Ideal S2x128x1 .f32) = (W20 m ρ c (Proc.devRef .tc main_v171) : FVec Ideal S2x128x1 .f32) :=
  ((W33_of m ρ c main_v171 (by decide)).trans ((W32_of m ρ c main_v171 (by decide)).trans ((W31_of m ρ c main_v171 (by decide)).trans ((W30_of m ρ c main_v171 (by decide)).trans ((W29_of m ρ c main_v171 (by decide)).trans ((W28_of m ρ c main_v171 (by decide)).trans ((W27_of m ρ c main_v171 (by decide)).trans ((W26_of m ρ c main_v171 (by decide)).trans ((W25_of m ρ c main_v171 (by decide)).trans ((W24_of m ρ c main_v171 (by decide)).trans ((W23_of m ρ c main_v171 (by decide)).trans ((W22_of m ρ c main_v171 (by decide)).trans (W21_of m ρ c main_v171 (by decide))))))))))))))

theorem carry_v177_33 : (W33 m ρ c (Proc.devRef .tc main_v177) : FVec Ideal S2x128x7168 .fp8e4m3) = (W23 m ρ c (Proc.devRef .tc main_v177) : FVec Ideal S2x128x7168 .fp8e4m3) :=
  ((W33_of m ρ c main_v177 (by decide)).trans ((W32_of m ρ c main_v177 (by decide)).trans ((W31_of m ρ c main_v177 (by decide)).trans ((W30_of m ρ c main_v177 (by decide)).trans ((W29_of m ρ c main_v177 (by decide)).trans ((W28_of m ρ c main_v177 (by decide)).trans ((W27_of m ρ c main_v177 (by decide)).trans ((W26_of m ρ c main_v177 (by decide)).trans ((W25_of m ρ c main_v177 (by decide)).trans (W24_of m ρ c main_v177 (by decide)))))))))))

theorem carry_v150_20 : (W20 m ρ c (Proc.devRef .tc main_v150) : FVec Ideal S2x128x7168 .f32) = (W17 m ρ c (Proc.devRef .tc main_v150) : FVec Ideal S2x128x7168 .f32) :=
  ((W20_of m ρ c main_v150 (by decide)).trans ((W19_of m ρ c main_v150 (by decide)).trans (W18_of m ρ c main_v150 (by decide))))

theorem carry_v217_32 : (W32 m ρ c (Proc.devRef .tc main_v217) : FVec Ideal S2x128x1 .f32) = (W28 m ρ c (Proc.devRef .tc main_v217) : FVec Ideal S2x128x1 .f32) :=
  ((W32_of m ρ c main_v217 (by decide)).trans ((W31_of m ρ c main_v217 (by decide)).trans ((W30_of m ρ c main_v217 (by decide)).trans (W29_of m ρ c main_v217 (by decide)))))

theorem carry_v217_33 : (W33 m ρ c (Proc.devRef .tc main_v217) : FVec Ideal S2x128x1 .f32) = (W28 m ρ c (Proc.devRef .tc main_v217) : FVec Ideal S2x128x1 .f32) :=
  ((W33_of m ρ c main_v217 (by decide)).trans ((W32_of m ρ c main_v217 (by decide)).trans ((W31_of m ρ c main_v217 (by decide)).trans ((W30_of m ρ c main_v217 (by decide)).trans (W29_of m ρ c main_v217 (by decide))))))

theorem carry_v223_33 : (W33 m ρ c (Proc.devRef .tc main_v223) : FVec Ideal S2x128x18944 .fp8e4m3) = (W31 m ρ c (Proc.devRef .tc main_v223) : FVec Ideal S2x128x18944 .fp8e4m3) :=
  ((W33_of m ρ c main_v223 (by decide)).trans (W32_of m ρ c main_v223 (by decide)))

theorem carry_v196_28 : (W28 m ρ c (Proc.devRef .tc main_v196) : FVec Ideal S2x128x18944 .f32) = (W25 m ρ c (Proc.devRef .tc main_v196) : FVec Ideal S2x128x18944 .f32) :=
  ((W28_of m ρ c main_v196 (by decide)).trans ((W27_of m ρ c main_v196 (by decide)).trans (W26_of m ρ c main_v196 (by decide))))

theorem carry_v0_16 : (W16 m ρ c (Proc.devRef .tc main_v0) : FVec Ideal S2x128x7168 .f32) = (W1 m ρ c (Proc.devRef .tc main_v0) : FVec Ideal S2x128x7168 .f32) :=
  ((W16_of m ρ c main_v0 (by decide)).trans ((W15_of m ρ c main_v0 (by decide)).trans ((W14_of m ρ c main_v0 (by decide)).trans ((W13_of m ρ c main_v0 (by decide)).trans ((W12_of m ρ c main_v0 (by decide)).trans ((W11_of m ρ c main_v0 (by decide)).trans ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide))))))))))))))))

theorem carry_v128_32 : (W32 m ρ c (Proc.devRef .tc main_v128) : FVec Ideal S2x128x7168 .f32) = (W17 m ρ c (Proc.devRef .tc main_v128) : FVec Ideal S2x128x7168 .f32) :=
  ((W32_of m ρ c main_v128 (by decide)).trans ((W31_of m ρ c main_v128 (by decide)).trans ((W30_of m ρ c main_v128 (by decide)).trans ((W29_of m ρ c main_v128 (by decide)).trans ((W28_of m ρ c main_v128 (by decide)).trans ((W27_of m ρ c main_v128 (by decide)).trans ((W26_of m ρ c main_v128 (by decide)).trans ((W25_of m ρ c main_v128 (by decide)).trans ((W24_of m ρ c main_v128 (by decide)).trans ((W23_of m ρ c main_v128 (by decide)).trans ((W22_of m ρ c main_v128 (by decide)).trans ((W21_of m ρ c main_v128 (by decide)).trans ((W20_of m ρ c main_v128 (by decide)).trans ((W19_of m ρ c main_v128 (by decide)).trans (W18_of m ρ c main_v128 (by decide))))))))))))))))

theorem arg0_at0 : (W0 m ρ c (Proc.devRef .tc main_arg0) : FVec Ideal S2x128x7168 .bf16) = (m ((c : Thread nD τ).loc main_arg0) : FVec Ideal S2x128x7168 .bf16) :=
  W0_args m ρ c main_arg0 (by decide)

theorem arg1_at0 : (W0 m ρ c (Proc.devRef .tc main_arg1) : FVec Ideal S7168 .f32) = (m ((c : Thread nD τ).loc main_arg1) : FVec Ideal S7168 .f32) :=
  W0_args m ρ c main_arg1 (by decide)

theorem arg2_at0 : (W0 m ρ c (Proc.devRef .tc main_arg2) : FVec Ideal S7168 .f32) = (m ((c : Thread nD τ).loc main_arg2) : FVec Ideal S7168 .f32) :=
  W0_args m ρ c main_arg2 (by decide)

theorem arg3_at7 : (W7 m ρ c (Proc.devRef .tc main_arg3) : FVec Ideal S7168x8960 .fp8e4m3) = (m ((c : Thread nD τ).loc main_arg3) : FVec Ideal S7168x8960 .fp8e4m3) :=
  W7_args m ρ c main_arg3 (by decide)

theorem arg4_at8 : (W8 m ρ c (Proc.devRef .tc main_arg4) : FVec Ideal S8960 .f32) = (m ((c : Thread nD τ).loc main_arg4) : FVec Ideal S8960 .f32) :=
  W8_args m ρ c main_arg4 (by decide)

theorem arg5_at8 : (W8 m ρ c (Proc.devRef .tc main_arg5) : FVec Ideal S8960 .f32) = (m ((c : Thread nD τ).loc main_arg5) : FVec Ideal S8960 .f32) :=
  W8_args m ρ c main_arg5 (by decide)

theorem arg6_at15 : (W15 m ρ c (Proc.devRef .tc main_arg6) : FVec Ideal S6400x7168 .fp8e4m3) = (m ((c : Thread nD τ).loc main_arg6) : FVec Ideal S6400x7168 .fp8e4m3) :=
  W15_args m ρ c main_arg6 (by decide)

theorem arg7_at16 : (W16 m ρ c (Proc.devRef .tc main_arg7) : FVec Ideal S7168 .f32) = (m ((c : Thread nD τ).loc main_arg7) : FVec Ideal S7168 .f32) :=
  W16_args m ρ c main_arg7 (by decide)

theorem arg8_at16 : (W16 m ρ c (Proc.devRef .tc main_arg8) : FVec Ideal S7168 .f32) = (m ((c : Thread nD τ).loc main_arg8) : FVec Ideal S7168 .f32) :=
  W16_args m ρ c main_arg8 (by decide)

theorem arg9_at16 : (W16 m ρ c (Proc.devRef .tc main_arg9) : FVec Ideal S7168 .f32) = (m ((c : Thread nD τ).loc main_arg9) : FVec Ideal S7168 .f32) :=
  W16_args m ρ c main_arg9 (by decide)

theorem arg10_at16 : (W16 m ρ c (Proc.devRef .tc main_arg10) : FVec Ideal S7168 .f32) = (m ((c : Thread nD τ).loc main_arg10) : FVec Ideal S7168 .f32) :=
  W16_args m ρ c main_arg10 (by decide)

theorem arg11_at23 : (W23 m ρ c (Proc.devRef .tc main_arg11) : FVec Ideal S7168x18944 .fp8e4m3) = (m ((c : Thread nD τ).loc main_arg11) : FVec Ideal S7168x18944 .fp8e4m3) :=
  W23_args m ρ c main_arg11 (by decide)

theorem arg12_at24 : (W24 m ρ c (Proc.devRef .tc main_arg12) : FVec Ideal S18944 .f32) = (m ((c : Thread nD τ).loc main_arg12) : FVec Ideal S18944 .f32) :=
  W24_args m ρ c main_arg12 (by decide)

theorem arg13_at24 : (W24 m ρ c (Proc.devRef .tc main_arg13) : FVec Ideal S18944 .f32) = (m ((c : Thread nD τ).loc main_arg13) : FVec Ideal S18944 .f32) :=
  W24_args m ρ c main_arg13 (by decide)

theorem arg14_at31 : (W31 m ρ c (Proc.devRef .tc main_arg14) : FVec Ideal S18944x7168 .fp8e4m3) = (m ((c : Thread nD τ).loc main_arg14) : FVec Ideal S18944x7168 .fp8e4m3) :=
  W31_args m ρ c main_arg14 (by decide)

theorem arg15_at32 : (W32 m ρ c (Proc.devRef .tc main_arg15) : FVec Ideal S7168 .f32) = (m ((c : Thread nD τ).loc main_arg15) : FVec Ideal S7168 .f32) :=
  W32_args m ρ c main_arg15 (by decide)

theorem arg16_at32 : (W32 m ρ c (Proc.devRef .tc main_arg16) : FVec Ideal S7168 .f32) = (m ((c : Thread nD τ).loc main_arg16) : FVec Ideal S7168 .f32) :=
  W32_args m ρ c main_arg16 (by decide)

theorem r_v22 (b : Fin 2) (s : Fin 128) (j : Fin 7168) :
    ((StableHlo.after pre0 (W0 m ρ c)) (Proc.devRef .tc main_v22) : FVec Ideal S2x128x7168 .f32) (ix3 b s j)
      = (args m c).ln1 b s j := by
  refine (pre0_ln (W0 m ρ c) b s j).trans ?_
  rw [arg0_at0, arg1_at0, arg2_at0]; rfl

theorem r_v0 (b : Fin 2) (s : Fin 128) (j : Fin 7168) :
    ((StableHlo.after pre0 (W0 m ρ c)) (Proc.devRef .tc main_v0) : FVec Ideal S2x128x7168 .f32) (ix3 b s j)
      = (args m c).x b s j := by
  refine (pre0_x (W0 m ρ c) b s j).trans ?_
  rw [arg0_at0]; rfl

theorem r_v25 (b : Fin 2) (s : Fin 128) :
    (StableHlo.after mag0 (StableHlo.after pre0 (W0 m ρ c)) (Proc.devRef .tc main_v25) : FVec Ideal S2x128x1 .f32) (ix3 b s 0)
      = amax ((args m c).ln1 b s) := by
  exact (amax0 _ b s).trans (congrArg amax (funext fun j => r_v22 m ρ c b s j))

theorem e_4  :
    W4 m ρ c
      = (StableHlo.after hostOps0_3 (StableHlo.after hostOps0_2 (StableHlo.after hostOps0_1 (StableHlo.after cmp0 (StableHlo.after mag0 (StableHlo.after pre0 (W0 m ρ c))))))) := by
  show (StableHlo.after hostOps0_3 (StableHlo.after hostOps0_2 (StableHlo.after hostOps0_1 (StableHlo.after hostOps0 (W0 m ρ c))))) = _
  rw [split0]

theorem r_v43 (b : Fin 2) (s : Fin 128) :
    (W4 m ρ c (Proc.devRef .tc main_v43) : FVec Ideal S2x128x1 .f32) (ix3 b s 0)
      = (args m c).scale1 b s := by
  rw [e_4]
  refine (scale0 _ b s).trans ?_
  rw [r_v25]
  rfl

theorem keep_v22  :
    (W1 m ρ c (Proc.devRef .tc main_v22) : FVec Ideal S2x128x7168 .f32)
      = ((StableHlo.after pre0 (W0 m ρ c)) (Proc.devRef .tc main_v22) : FVec Ideal S2x128x7168 .f32) := by
  show (StableHlo.after hostOps0 (W0 m ρ c) (Proc.devRef .tc main_v22) : FVec Ideal S2x128x7168 .f32) = _
  rw [split0]
  rw [cmp0_v22, mag0_v22]

theorem r_v49 (b : Fin 2) (s : Fin 128) (j : Fin 7168) :
    (W7 m ρ c (Proc.devRef .tc main_v49) : FVec Ideal S2x128x7168 .fp8e4m3) (ix3 b s j)
      = (args m c).code1 b s j := by
  refine (codes0 (W4 m ρ c) b s j).trans ?_
  rw [carry_v22_4, keep_v22, r_v43, r_v22]
  exact code_scaleOf ((args m c).ln1 b s) j

theorem r_v50 (r : Fin 256) (j : Fin 7168) :
    (W7 m ρ c (Proc.devRef .tc main_v50) : FVec Ideal S256x7168 .fp8e4m3) (ix2 r j)
      = (args m c).code1 ⟨r / 128, by omega⟩ ⟨r % 128, by omega⟩ j := by
  exact (rows0 (W6 m ρ c) r j).trans (r_v49 m ρ c _ _ j)

theorem e_v51  :
    (W8 m ρ c (Proc.devRef .tc main_v51) : FVec Ideal S256x8960 .f32)
      = M0 (V7 m ρ) c := by
  exact (W8_arr m ρ c 2).trans (product0 (V7 m ρ) c)

theorem r_v51 (b : Fin 2) (s : Fin 128) (j : Fin 8960) :
    (W8 m ρ c (Proc.devRef .tc main_v51) : FVec Ideal S256x8960 .f32) (ix2 ⟨b * 128 + s, by omega⟩ j)
      = dotp ((args m c).code1 b s) (fun x => (args m c).wq x j) := by
  rw [e_v51]; unfold M0
  refine congr (congrArg dotp (funext fun x => ?_)) (funext fun x => ?_)
  · refine (r_v50 m ρ c _ x).trans ?_
    exact congr3 (args m c).code1 (Fin.ext (by simp only [ix2_0]; omega)) (Fin.ext (by simp only [ix2_0]; omega)) rfl
  · exact congrFun (arg3_at7 m ρ c) (ix2 x j)

theorem keep_v0  :
    (W1 m ρ c (Proc.devRef .tc main_v0) : FVec Ideal S2x128x7168 .f32)
      = ((StableHlo.after pre0 (W0 m ρ c)) (Proc.devRef .tc main_v0) : FVec Ideal S2x128x7168 .f32) := by
  show (StableHlo.after hostOps0 (W0 m ρ c) (Proc.devRef .tc main_v0) : FVec Ideal S2x128x7168 .f32) = _
  rw [split0]
  rw [cmp0_v0, mag0_v0]

theorem r_v60 (b : Fin 2) (s : Fin 128) (j : Fin 8960) :
    ((StableHlo.after (hostOps1.take 9) (W8 m ρ c)) (Proc.devRef .tc main_v60) : FVec Ideal S2x128x8960 .f32) (ix3 b s j)
      = (args m c).qkv b s j := by
  exact (pre1_qkv (W8 m ρ c) b s j).trans (proj1_congr (r_v51 m ρ c b s j) (by rw [carry_v43_8]; exact r_v43 m ρ c b s) (congrFun (arg4_at8 m ρ c) (ix1 j)) (congrFun (arg5_at8 m ρ c) (ix1 j)))

theorem r_v89 (b : Fin 2) (s : Fin 128) (j : Fin 6400) :
    ((StableHlo.after att3 (StableHlo.after att2 (StableHlo.after att1 (StableHlo.after (hostOps1.take 9) (W8 m ρ c))))) (Proc.devRef .tc main_v89) : FVec Ideal S2x128x6400 .f32) (ix3 b s j)
      = (args m c).att b s j := by
  refine (pre1_out _ b s j).trans ?_
  unfold Args.att
  rw [attnRow_soft, att2_v69]
  refine congr (congrArg dotp (funext fun t => ?_)) (funext fun t => ?_)
  · exact (pre1_v _ b t _ _).trans (r_v60 m ρ c b t _)
  · refine (pre1_soft _ b _ _ s t).trans (congrArg (fun z => soft z t) (funext fun t => ?_))
    refine (pre1_score _ b _ _ s t).trans ?_
    refine congrFun (congr (congrArg score (funext fun d => ?_)) (funext fun t => funext fun d => ?_)) t
    · refine (r_v60 m ρ c b s _).trans (congrArg ((args m c).qkv b s) (Fin.ext ?_))
      simp only
      omega
    · exact r_v60 m ρ c b t _

theorem r_v92 (b : Fin 2) (s : Fin 128) :
    (StableHlo.after mag1 (StableHlo.after att3 (StableHlo.after att2 (StableHlo.after att1 (StableHlo.after (hostOps1.take 9) (W8 m ρ c))))) (Proc.devRef .tc main_v92) : FVec Ideal S2x128x1 .f32) (ix3 b s 0)
      = amax ((args m c).att b s) := by
  exact (amax1 _ b s).trans (congrArg amax (funext fun j => r_v89 m ρ c b s j))

theorem e_12  :
    W12 m ρ c
      = (StableHlo.after hostOps1_3 (StableHlo.after hostOps1_2 (StableHlo.after hostOps1_1 (StableHlo.after cmp1 (StableHlo.after mag1 (StableHlo.after att3 (StableHlo.after att2 (StableHlo.after att1 (StableHlo.after (hostOps1.take 9) (W8 m ρ c)))))))))) := by
  show (StableHlo.after hostOps1_3 (StableHlo.after hostOps1_2 (StableHlo.after hostOps1_1 (StableHlo.after hostOps1 (W8 m ρ c))))) = _
  rw [split1]

theorem r_v110 (b : Fin 2) (s : Fin 128) :
    (W12 m ρ c (Proc.devRef .tc main_v110) : FVec Ideal S2x128x1 .f32) (ix3 b s 0)
      = (args m c).scale2 b s := by
  rw [e_12]
  refine (scale1 _ b s).trans ?_
  rw [r_v92]
  rfl

theorem keep_v89  :
    (W9 m ρ c (Proc.devRef .tc main_v89) : FVec Ideal S2x128x6400 .f32)
      = ((StableHlo.after att3 (StableHlo.after att2 (StableHlo.after att1 (StableHlo.after (hostOps1.take 9) (W8 m ρ c))))) (Proc.devRef .tc main_v89) : FVec Ideal S2x128x6400 .f32) := by
  show (StableHlo.after hostOps1 (W8 m ρ c) (Proc.devRef .tc main_v89) : FVec Ideal S2x128x6400 .f32) = _
  rw [split1]
  rw [cmp1_v89, mag1_v89]

theorem r_v116 (b : Fin 2) (s : Fin 128) (j : Fin 6400) :
    (W15 m ρ c (Proc.devRef .tc main_v116) : FVec Ideal S2x128x6400 .fp8e4m3) (ix3 b s j)
      = (args m c).code2 b s j := by
  refine (codes1 (W12 m ρ c) b s j).trans ?_
  rw [carry_v89_12, keep_v89, r_v110, r_v89]
  exact code_scaleOf ((args m c).att b s) j

theorem r_v117 (r : Fin 256) (j : Fin 6400) :
    (W15 m ρ c (Proc.devRef .tc main_v117) : FVec Ideal S256x6400 .fp8e4m3) (ix2 r j)
      = (args m c).code2 ⟨r / 128, by omega⟩ ⟨r % 128, by omega⟩ j := by
  exact (rows1 (W14 m ρ c) r j).trans (r_v116 m ρ c _ _ j)

theorem e_v118  :
    (W16 m ρ c (Proc.devRef .tc main_v118) : FVec Ideal S256x7168 .f32)
      = M1 (V15 m ρ) c := by
  exact (W16_arr m ρ c 2).trans (product1 (V15 m ρ) c)

theorem r_v118 (b : Fin 2) (s : Fin 128) (j : Fin 7168) :
    (W16 m ρ c (Proc.devRef .tc main_v118) : FVec Ideal S256x7168 .f32) (ix2 ⟨b * 128 + s, by omega⟩ j)
      = dotp ((args m c).code2 b s) (fun x => (args m c).wo x j) := by
  rw [e_v118]; unfold M1
  refine congr (congrArg dotp (funext fun x => ?_)) (funext fun x => ?_)
  · refine (r_v117 m ρ c _ x).trans ?_
    exact congr3 (args m c).code2 (Fin.ext (by simp only [ix2_0]; omega)) (Fin.ext (by simp only [ix2_0]; omega)) rfl
  · exact congrFun (arg6_at15 m ρ c) (ix2 x j)

theorem r_v128 (b : Fin 2) (s : Fin 128) (j : Fin 7168) :
    ((StableHlo.after (hostOps2.take 10) (W16 m ρ c)) (Proc.devRef .tc main_v128) : FVec Ideal S2x128x7168 .f32) (ix3 b s j)
      = (args m c).hid b s j := by
  refine (pre2_h (W16 m ρ c) b s j).trans (congr (congrArg resid ?_) (proj1_congr (r_v118 m ρ c b s j) (by rw [carry_v110_16]; exact r_v110 m ρ c b s) (congrFun (arg7_at16 m ρ c) (ix1 j)) (congrFun (arg8_at16 m ρ c) (ix1 j))))
  rw [carry_v0_16, keep_v0]; exact r_v0 m ρ c b s j

theorem r_v150 (b : Fin 2) (s : Fin 128) (j : Fin 7168) :
    ((StableHlo.after norm2 (StableHlo.after (hostOps2.take 10) (W16 m ρ c))) (Proc.devRef .tc main_v150) : FVec Ideal S2x128x7168 .f32) (ix3 b s j)
      = (args m c).ln2 b s j := by
  refine (pre2_ln _ b s j).trans ?_
  rw [hid2_arg9, hid2_arg10, arg9_at16, arg10_at16]
  exact congrFun (lnRow_congr (fun j => r_v128 m ρ c b s j) (fun _ => rfl) (fun _ => rfl)) j

theorem r_v153 (b : Fin 2) (s : Fin 128) :
    (StableHlo.after mag2 (StableHlo.after norm2 (StableHlo.after (hostOps2.take 10) (W16 m ρ c))) (Proc.devRef .tc main_v153) : FVec Ideal S2x128x1 .f32) (ix3 b s 0)
      = amax ((args m c).ln2 b s) := by
  exact (amax2 _ b s).trans (congrArg amax (funext fun j => r_v150 m ρ c b s j))

theorem e_20  :
    W20 m ρ c
      = (StableHlo.after hostOps2_3 (StableHlo.after hostOps2_2 (StableHlo.after hostOps2_1 (StableHlo.after cmp2 (StableHlo.after mag2 (StableHlo.after norm2 (StableHlo.after (hostOps2.take 10) (W16 m ρ c)))))))) := by
  show (StableHlo.after hostOps2_3 (StableHlo.after hostOps2_2 (StableHlo.after hostOps2_1 (StableHlo.after hostOps2 (W16 m ρ c))))) = _
  rw [split2]

theorem r_v171 (b : Fin 2) (s : Fin 128) :
    (W20 m ρ c (Proc.devRef .tc main_v171) : FVec Ideal S2x128x1 .f32) (ix3 b s 0)
      = (args m c).scale3 b s := by
  rw [e_20]
  refine (scale2 _ b s).trans ?_
  rw [r_v153]
  rfl

theorem keep_v150  :
    (W17 m ρ c (Proc.devRef .tc main_v150) : FVec Ideal S2x128x7168 .f32)
      = ((StableHlo.after norm2 (StableHlo.after (hostOps2.take 10) (W16 m ρ c))) (Proc.devRef .tc main_v150) : FVec Ideal S2x128x7168 .f32) := by
  show (StableHlo.after hostOps2 (W16 m ρ c) (Proc.devRef .tc main_v150) : FVec Ideal S2x128x7168 .f32) = _
  rw [split2]
  rw [cmp2_v150, mag2_v150]

theorem r_v177 (b : Fin 2) (s : Fin 128) (j : Fin 7168) :
    (W23 m ρ c (Proc.devRef .tc main_v177) : FVec Ideal S2x128x7168 .fp8e4m3) (ix3 b s j)
      = (args m c).code3 b s j := by
  refine (codes2 (W20 m ρ c) b s j).trans ?_
  rw [carry_v150_20, keep_v150, r_v171, r_v150]
  exact code_scaleOf ((args m c).ln2 b s) j

theorem r_v178 (r : Fin 256) (j : Fin 7168) :
    (W23 m ρ c (Proc.devRef .tc main_v178) : FVec Ideal S256x7168 .fp8e4m3) (ix2 r j)
      = (args m c).code3 ⟨r / 128, by omega⟩ ⟨r % 128, by omega⟩ j := by
  exact (rows2 (W22 m ρ c) r j).trans (r_v177 m ρ c _ _ j)

theorem e_v179  :
    (W24 m ρ c (Proc.devRef .tc main_v179) : FVec Ideal S256x18944 .f32)
      = M2 (V23 m ρ) c := by
  exact (W24_arr m ρ c 2).trans (product2 (V23 m ρ) c)

theorem r_v179 (b : Fin 2) (s : Fin 128) (j : Fin 18944) :
    (W24 m ρ c (Proc.devRef .tc main_v179) : FVec Ideal S256x18944 .f32) (ix2 ⟨b * 128 + s, by omega⟩ j)
      = dotp ((args m c).code3 b s) (fun x => (args m c).wi x j) := by
  rw [e_v179]; unfold M2
  refine congr (congrArg dotp (funext fun x => ?_)) (funext fun x => ?_)
  · refine (r_v178 m ρ c _ x).trans ?_
    exact congr3 (args m c).code3 (Fin.ext (by simp only [ix2_0]; omega)) (Fin.ext (by simp only [ix2_0]; omega)) rfl
  · exact congrFun (arg11_at23 m ρ c) (ix2 x j)

theorem keep_v128  :
    (W17 m ρ c (Proc.devRef .tc main_v128) : FVec Ideal S2x128x7168 .f32)
      = ((StableHlo.after (hostOps2.take 10) (W16 m ρ c)) (Proc.devRef .tc main_v128) : FVec Ideal S2x128x7168 .f32) := by
  show (StableHlo.after hostOps2 (W16 m ρ c) (Proc.devRef .tc main_v128) : FVec Ideal S2x128x7168 .f32) = _
  rw [split2]
  rw [cmp2_v128, mag2_v128, norm2_v128]

theorem r_v196 (b : Fin 2) (s : Fin 128) (j : Fin 18944) :
    ((StableHlo.after pre3 (W24 m ρ c)) (Proc.devRef .tc main_v196) : FVec Ideal S2x128x18944 .f32) (ix3 b s j)
      = (args m c).ffn b s j := by
  exact (pre3_gelu (W24 m ρ c) b s j).trans (congrArg gelu (proj1_congr (r_v179 m ρ c b s j) (by rw [carry_v171_24]; exact r_v171 m ρ c b s) (congrFun (arg12_at24 m ρ c) (ix1 j)) (congrFun (arg13_at24 m ρ c) (ix1 j))))

theorem r_v199 (b : Fin 2) (s : Fin 128) :
    (StableHlo.after mag3 (StableHlo.after pre3 (W24 m ρ c)) (Proc.devRef .tc main_v199) : FVec Ideal S2x128x1 .f32) (ix3 b s 0)
      = amax ((args m c).ffn b s) := by
  exact (amax3 _ b s).trans (congrArg amax (funext fun j => r_v196 m ρ c b s j))

theorem e_28  :
    W28 m ρ c
      = (StableHlo.after hostOps3_3 (StableHlo.after hostOps3_2 (StableHlo.after hostOps3_1 (StableHlo.after cmp3 (StableHlo.after mag3 (StableHlo.after pre3 (W24 m ρ c))))))) := by
  show (StableHlo.after hostOps3_3 (StableHlo.after hostOps3_2 (StableHlo.after hostOps3_1 (StableHlo.after hostOps3 (W24 m ρ c))))) = _
  rw [split3]

theorem r_v217 (b : Fin 2) (s : Fin 128) :
    (W28 m ρ c (Proc.devRef .tc main_v217) : FVec Ideal S2x128x1 .f32) (ix3 b s 0)
      = (args m c).scale4 b s := by
  rw [e_28]
  refine (scale3 _ b s).trans ?_
  rw [r_v199]
  rfl

theorem keep_v196  :
    (W25 m ρ c (Proc.devRef .tc main_v196) : FVec Ideal S2x128x18944 .f32)
      = ((StableHlo.after pre3 (W24 m ρ c)) (Proc.devRef .tc main_v196) : FVec Ideal S2x128x18944 .f32) := by
  show (StableHlo.after hostOps3 (W24 m ρ c) (Proc.devRef .tc main_v196) : FVec Ideal S2x128x18944 .f32) = _
  rw [split3]
  rw [cmp3_v196, mag3_v196]

theorem r_v223 (b : Fin 2) (s : Fin 128) (j : Fin 18944) :
    (W31 m ρ c (Proc.devRef .tc main_v223) : FVec Ideal S2x128x18944 .fp8e4m3) (ix3 b s j)
      = (args m c).code4 b s j := by
  refine (codes3 (W28 m ρ c) b s j).trans ?_
  rw [carry_v196_28, keep_v196, r_v217, r_v196]
  exact code_scaleOf ((args m c).ffn b s) j

theorem r_v224 (r : Fin 256) (j : Fin 18944) :
    (W31 m ρ c (Proc.devRef .tc main_v224) : FVec Ideal S256x18944 .fp8e4m3) (ix2 r j)
      = (args m c).code4 ⟨r / 128, by omega⟩ ⟨r % 128, by omega⟩ j := by
  exact (rows3 (W30 m ρ c) r j).trans (r_v223 m ρ c _ _ j)

theorem e_v225  :
    (W32 m ρ c (Proc.devRef .tc main_v225) : FVec Ideal S256x7168 .f32)
      = M3 (V31 m ρ) c := by
  exact (W32_arr m ρ c 2).trans (product3 (V31 m ρ) c)

theorem r_v225 (b : Fin 2) (s : Fin 128) (j : Fin 7168) :
    (W32 m ρ c (Proc.devRef .tc main_v225) : FVec Ideal S256x7168 .f32) (ix2 ⟨b * 128 + s, by omega⟩ j)
      = dotp ((args m c).code4 b s) (fun x => (args m c).wf x j) := by
  rw [e_v225]; unfold M3
  refine congr (congrArg dotp (funext fun x => ?_)) (funext fun x => ?_)
  · refine (r_v224 m ρ c _ x).trans ?_
    exact congr3 (args m c).code4 (Fin.ext (by simp only [ix2_0]; omega)) (Fin.ext (by simp only [ix2_0]; omega)) rfl
  · exact congrFun (arg14_at31 m ρ c) (ix2 x j)

theorem r_v236 (b : Fin 2) (s : Fin 128) (j : Fin 7168) :
    (W33 m ρ c (Proc.devRef .tc main_v236) : FVec Ideal S2x128x7168 .bf16) (ix3 b s j)
      = (args m c).out b s j := by
  refine (post4_y (W32 m ρ c) b s j).trans (congr (congrArg resid ?_) (proj1_congr (r_v225 m ρ c b s j) (by rw [carry_v217_32]; exact r_v217 m ρ c b s) (congrFun (arg15_at32 m ρ c) (ix1 j)) (congrFun (arg16_at32 m ρ c) (ix1 j))))
  rw [carry_v128_32, keep_v128]; exact r_v128 m ρ c b s j

theorem res_v236  :
    (W33 m ρ c (Proc.devRef .tc main_v236) : FVec Ideal S2x128x7168 .bf16)
      = (fun i => (args m c).out (i 0) (i 1) (i 2) : FVec Ideal S2x128x7168 .bf16) := by
  funext i
  idx_vars i
  exact r_v236 m ρ c i0 i1 i2

theorem res_v49  :
    (W33 m ρ c (Proc.devRef .tc main_v49) : FVec Ideal S2x128x7168 .fp8e4m3)
      = (fun i => (args m c).code1 (i 0) (i 1) (i 2) : FVec Ideal S2x128x7168 .fp8e4m3) := by
  funext i
  idx_vars i
  rw [carry_v49_33]; exact r_v49 m ρ c i0 i1 i2

theorem res_v43  :
    (W33 m ρ c (Proc.devRef .tc main_v43) : FVec Ideal S2x128x1 .f32)
      = (fun i => (args m c).scale1 (i 0) (i 1) : FVec Ideal S2x128x1 .f32) := by
  funext i
  idx_vars i
  obtain rfl : i2 = 0 := Subsingleton.elim _ _
  rw [carry_v43_33]; exact r_v43 m ρ c i0 i1

theorem res_v116  :
    (W33 m ρ c (Proc.devRef .tc main_v116) : FVec Ideal S2x128x6400 .fp8e4m3)
      = (fun i => (args m c).code2 (i 0) (i 1) (i 2) : FVec Ideal S2x128x6400 .fp8e4m3) := by
  funext i
  idx_vars i
  rw [carry_v116_33]; exact r_v116 m ρ c i0 i1 i2

theorem res_v110  :
    (W33 m ρ c (Proc.devRef .tc main_v110) : FVec Ideal S2x128x1 .f32)
      = (fun i => (args m c).scale2 (i 0) (i 1) : FVec Ideal S2x128x1 .f32) := by
  funext i
  idx_vars i
  obtain rfl : i2 = 0 := Subsingleton.elim _ _
  rw [carry_v110_33]; exact r_v110 m ρ c i0 i1

theorem res_v177  :
    (W33 m ρ c (Proc.devRef .tc main_v177) : FVec Ideal S2x128x7168 .fp8e4m3)
      = (fun i => (args m c).code3 (i 0) (i 1) (i 2) : FVec Ideal S2x128x7168 .fp8e4m3) := by
  funext i
  idx_vars i
  rw [carry_v177_33]; exact r_v177 m ρ c i0 i1 i2

theorem res_v171  :
    (W33 m ρ c (Proc.devRef .tc main_v171) : FVec Ideal S2x128x1 .f32)
      = (fun i => (args m c).scale3 (i 0) (i 1) : FVec Ideal S2x128x1 .f32) := by
  funext i
  idx_vars i
  obtain rfl : i2 = 0 := Subsingleton.elim _ _
  rw [carry_v171_33]; exact r_v171 m ρ c i0 i1

theorem res_v223  :
    (W33 m ρ c (Proc.devRef .tc main_v223) : FVec Ideal S2x128x18944 .fp8e4m3)
      = (fun i => (args m c).code4 (i 0) (i 1) (i 2) : FVec Ideal S2x128x18944 .fp8e4m3) := by
  funext i
  idx_vars i
  rw [carry_v223_33]; exact r_v223 m ρ c i0 i1 i2

theorem res_v217  :
    (W33 m ρ c (Proc.devRef .tc main_v217) : FVec Ideal S2x128x1 .f32)
      = (fun i => (args m c).scale4 (i 0) (i 1) : FVec Ideal S2x128x1 .f32) := by
  funext i
  idx_vars i
  obtain rfl : i2 = 0 := Subsingleton.elim _ _
  rw [carry_v217_33]; exact r_v217 m ρ c i0 i1

end Cert.Enc.R
-- ==== Proof.RRun.lean ====
/- The run of the reference's program with its results: the frame's launch, reading the result arrays as well as the arguments. -/
module

public import proofs.«01_k».proof.Proof.Gen.ReferenceIdeal.Frame

@[expose] public section

set_option maxRecDepth 16384

noncomputable section

namespace Cert.Enc.R

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

variable (m : (ℓ : Loc nD τ sig) → Buf (Elt F) ℓ) (ρ : Dev nD → PrngReg)

set_option backward.isDefEq.respectTransparency.types false in
/-- Every run ends with each result array at its contents in the last boundary valuation, and the arguments as launched. -/
theorem run : θ_run defs (onTc (τ := τ) (main (F := F))) ⟨m, fun _ => 0, ρ⟩ (fun r => ∀ c : Dev nD,
      r.2.mem ((c.tc : Thread nD τ).loc main_v236) = W33 m ρ c (Proc.devRef .tc main_v236)
      ∧ r.2.mem ((c.tc : Thread nD τ).loc main_v49) = W33 m ρ c (Proc.devRef .tc main_v49)
      ∧ r.2.mem ((c.tc : Thread nD τ).loc main_v43) = W33 m ρ c (Proc.devRef .tc main_v43)
      ∧ r.2.mem ((c.tc : Thread nD τ).loc main_v116) = W33 m ρ c (Proc.devRef .tc main_v116)
      ∧ r.2.mem ((c.tc : Thread nD τ).loc main_v110) = W33 m ρ c (Proc.devRef .tc main_v110)
      ∧ r.2.mem ((c.tc : Thread nD τ).loc main_v177) = W33 m ρ c (Proc.devRef .tc main_v177)
      ∧ r.2.mem ((c.tc : Thread nD τ).loc main_v171) = W33 m ρ c (Proc.devRef .tc main_v171)
      ∧ r.2.mem ((c.tc : Thread nD τ).loc main_v223) = W33 m ρ c (Proc.devRef .tc main_v223)
      ∧ r.2.mem ((c.tc : Thread nD τ).loc main_v217) = W33 m ρ c (Proc.devRef .tc main_v217)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h _ => fun c =>
      ⟨h c _ (mem_uc main_v236 (by decide)),
       h c _ (mem_uc main_v49 (by decide)),
       h c _ (mem_uc main_v43 (by decide)),
       h c _ (mem_uc main_v116 (by decide)),
       h c _ (mem_uc main_v110 (by decide)),
       h c _ (mem_uc main_v177 (by decide)),
       h c _ (mem_uc main_v171 (by decide)),
       h c _ (mem_uc main_v223 (by decide)),
       h c _ (mem_uc main_v217 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c),
       (h c _ (mem_uc main_arg13 (by decide))).trans (W33_main_arg13 m ρ c),
       (h c _ (mem_uc main_arg14 (by decide))).trans (W33_main_arg14 m ρ c),
       (h c _ (mem_uc main_arg15 (by decide))).trans (W33_main_arg15 m ρ c),
       (h c _ (mem_uc main_arg16 (by decide))).trans (W33_main_arg16 m ρ c)⟩)

end Cert.Enc.R
-- ==== Proof.Value.lean ====
/- The two programs have equal results: both compute the layer's rows from equal arguments. -/
module

public import proofs.«01_k».proof.Defs
public import proofs.«01_k».proof.Proof.KChain
public import proofs.«01_k».proof.Proof.KRun
public import proofs.«01_k».proof.Proof.RChain
public import proofs.«01_k».proof.Proof.RRun

@[expose] public section

set_option maxRecDepth 16384

noncomputable section

namespace Cert.Enc

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Memories agreeing on the arguments give the same elements. -/
theorem args_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    R.args m' c = K.args m c := by
  obtain ⟨h0, h1, h2, h3, h4, h5, h6, h7, h8, h9, h10, h11, h12, h13, h14, h15, h16⟩ := h
  unfold R.args K.args
  rw [Args.mk.injEq]
  exact ⟨funext fun i => funext fun j => funext fun k => congrArg (fun f : FVec Ideal Cert.KernelIdeal.S2x128x7168 .bf16 => f (ix3 i j k)) h0,
    funext fun i => congrArg (fun f : FVec Ideal Cert.KernelIdeal.S7168 .f32 => f (ix1 i)) h1,
    funext fun i => congrArg (fun f : FVec Ideal Cert.KernelIdeal.S7168 .f32 => f (ix1 i)) h2,
    funext fun i => funext fun j => congrArg (fun f : FVec Ideal Cert.KernelIdeal.S7168x8960 .fp8e4m3 => f (ix2 i j)) h3,
    funext fun i => congrArg (fun f : FVec Ideal Cert.KernelIdeal.S8960 .f32 => f (ix1 i)) h4,
    funext fun i => congrArg (fun f : FVec Ideal Cert.KernelIdeal.S8960 .f32 => f (ix1 i)) h5,
    funext fun i => funext fun j => congrArg (fun f : FVec Ideal Cert.KernelIdeal.S6400x7168 .fp8e4m3 => f (ix2 i j)) h6,
    funext fun i => congrArg (fun f : FVec Ideal Cert.KernelIdeal.S7168 .f32 => f (ix1 i)) h7,
    funext fun i => congrArg (fun f : FVec Ideal Cert.KernelIdeal.S7168 .f32 => f (ix1 i)) h8,
    funext fun i => congrArg (fun f : FVec Ideal Cert.KernelIdeal.S7168 .f32 => f (ix1 i)) h9,
    funext fun i => congrArg (fun f : FVec Ideal Cert.KernelIdeal.S7168 .f32 => f (ix1 i)) h10,
    funext fun i => funext fun j => congrArg (fun f : FVec Ideal Cert.KernelIdeal.S7168x18944 .fp8e4m3 => f (ix2 i j)) h11,
    funext fun i => congrArg (fun f : FVec Ideal Cert.KernelIdeal.S18944 .f32 => f (ix1 i)) h12,
    funext fun i => congrArg (fun f : FVec Ideal Cert.KernelIdeal.S18944 .f32 => f (ix1 i)) h13,
    funext fun i => funext fun j => congrArg (fun f : FVec Ideal Cert.KernelIdeal.S18944x7168 .fp8e4m3 => f (ix2 i j)) h14,
    funext fun i => congrArg (fun f : FVec Ideal Cert.KernelIdeal.S7168 .f32 => f (ix1 i)) h15,
    funext fun i => congrArg (fun f : FVec Ideal Cert.KernelIdeal.S7168 .f32 => f (ix1 i)) h16⟩

/-- From memories agreeing on the arguments, the kernel and the reference end with equal results. -/
theorem algebraic [Cert.KernelIdeal.Facts] [Cert.ReferenceIdeal.Facts] : Cert.algebraic_KernelIdeal_ReferenceIdeal := by
  intro m g m' g' _ hargs
  refine ⟨fun c => Cert.KernelIdeal.Gen.W18 m g c (Proc.devRef .tc Cert.KernelIdeal.main_v37), fun c => Cert.KernelIdeal.Gen.W18 m g c (Proc.devRef .tc Cert.KernelIdeal.main_v38), fun c => Cert.KernelIdeal.Gen.W18 m g c (Proc.devRef .tc Cert.KernelIdeal.main_v39), fun c => Cert.KernelIdeal.Gen.W18 m g c (Proc.devRef .tc Cert.KernelIdeal.main_v40), fun c => Cert.KernelIdeal.Gen.W18 m g c (Proc.devRef .tc Cert.KernelIdeal.main_v41), fun c => Cert.KernelIdeal.Gen.W18 m g c (Proc.devRef .tc Cert.KernelIdeal.main_v42), fun c => Cert.KernelIdeal.Gen.W18 m g c (Proc.devRef .tc Cert.KernelIdeal.main_v43), fun c => Cert.KernelIdeal.Gen.W18 m g c (Proc.devRef .tc Cert.KernelIdeal.main_v44), fun c => Cert.KernelIdeal.Gen.W18 m g c (Proc.devRef .tc Cert.KernelIdeal.main_v45),
    K.run m g, (θ_run (Cert.ReferenceIdeal.defs (F := Ideal)) _ _).mono (fun r h c => ?_) (R.run m' g')⟩
  have e := args_eq m m' c (hargs c)
  obtain ⟨r0, r1, r2, r3, r4, r5, r6, r7, r8, rest⟩ := h c
  refine ⟨r0.trans ((R.res_v236 m' g' c).trans (Eq.trans ?_ (K.res_v37 m g c).symm)),
    r1.trans ((R.res_v49 m' g' c).trans (Eq.trans ?_ (K.res_v38 m g c).symm)),
    r2.trans ((R.res_v43 m' g' c).trans (Eq.trans ?_ (K.res_v39 m g c).symm)),
    r3.trans ((R.res_v116 m' g' c).trans (Eq.trans ?_ (K.res_v40 m g c).symm)),
    r4.trans ((R.res_v110 m' g' c).trans (Eq.trans ?_ (K.res_v41 m g c).symm)),
    r5.trans ((R.res_v177 m' g' c).trans (Eq.trans ?_ (K.res_v42 m g c).symm)),
    r6.trans ((R.res_v171 m' g' c).trans (Eq.trans ?_ (K.res_v43 m g c).symm)),
    r7.trans ((R.res_v223 m' g' c).trans (Eq.trans ?_ (K.res_v44 m g c).symm)),
    r8.trans ((R.res_v217 m' g' c).trans (Eq.trans ?_ (K.res_v45 m g c).symm)), rest⟩ <;> rw [e]

end Cert.Enc
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial,
    @Cert.Enc.algebraic Cert.KernelIdeal.Gen.facts Cert.ReferenceIdeal.Gen.facts⟩

end Cert.Proof

end
